-- ==== Defs.lean ====
def Pre_Kernel0 (m : (ℓ : Loc Cert.Kernel0.nD Cert.Kernel0.τ Cert.Kernel0.sig) → Buf (Elt Bits) ℓ) : Prop :=
  True

def Pre_Kernel0Ideal (m : (ℓ : Loc Cert.Kernel0Ideal.nD Cert.Kernel0Ideal.τ Cert.Kernel0Ideal.sig) → Buf (Elt Ideal) ℓ) : Prop :=
  True

def Pre_Reference0Ideal (m : (ℓ : Loc Cert.Reference0Ideal.nD Cert.Reference0Ideal.τ Cert.Reference0Ideal.sig) → Buf (Elt Ideal) ℓ) : Prop :=
  True

def Pre_Kernel1 (m : (ℓ : Loc Cert.Kernel1.nD Cert.Kernel1.τ Cert.Kernel1.sig) → Buf (Elt Bits) ℓ) : Prop :=
  True

def Pre_Kernel1Ideal (m : (ℓ : Loc Cert.Kernel1Ideal.nD Cert.Kernel1Ideal.τ Cert.Kernel1Ideal.sig) → Buf (Elt Ideal) ℓ) : Prop :=
  True

def Pre_Reference1Ideal (m : (ℓ : Loc Cert.Reference1Ideal.nD Cert.Reference1Ideal.τ Cert.Reference1Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel0 [hKernel0 : Cert.Kernel0.Facts] : Prop :=
  ∀ (m : (ℓ : Loc Cert.Kernel0.nD Cert.Kernel0.τ Cert.Kernel0.sig) → Buf (Elt Bits) ℓ) (g : Dev Cert.Kernel0.nD → PrngReg), Pre_Kernel0 m →
    θ_run (Cert.Kernel0.defs (F := Bits)) (onTc (τ := Cert.Kernel0.τ) (Cert.Kernel0.main (F := Bits))) ⟨m, fun _ => 0, g⟩ (fun r => (∀ c : Dev Cert.Kernel0.nD,
      r.2.mem ((c.tc : Thread Cert.Kernel0.nD Cert.Kernel0.τ).loc Cert.Kernel0.main_arg0) = m ((c.tc : Thread Cert.Kernel0.nD Cert.Kernel0.τ).loc Cert.Kernel0.main_arg0)
      ∧ r.2.mem ((c.tc : Thread Cert.Kernel0.nD Cert.Kernel0.τ).loc Cert.Kernel0.main_arg1) = m ((c.tc : Thread Cert.Kernel0.nD Cert.Kernel0.τ).loc Cert.Kernel0.main_arg1)
      ∧ r.2.mem ((c.tc : Thread Cert.Kernel0.nD Cert.Kernel0.τ).loc Cert.Kernel0.main_arg2) = m ((c.tc : Thread Cert.Kernel0.nD Cert.Kernel0.τ).loc Cert.Kernel0.main_arg2)
      ∧ r.2.mem ((c.tc : Thread Cert.Kernel0.nD Cert.Kernel0.τ).loc Cert.Kernel0.main_arg3) = m ((c.tc : Thread Cert.Kernel0.nD Cert.Kernel0.τ).loc Cert.Kernel0.main_arg3)
      ∧ r.2.mem ((c.tc : Thread Cert.Kernel0.nD Cert.Kernel0.τ).loc Cert.Kernel0.main_arg4) = m ((c.tc : Thread Cert.Kernel0.nD Cert.Kernel0.τ).loc Cert.Kernel0.main_arg4))
      ∧ r.2.sem = fun _ => 0)

def quiescent_Kernel0Ideal [hKernel0Ideal : Cert.Kernel0Ideal.Facts] : Prop :=
  ∀ (m : (ℓ : Loc Cert.Kernel0Ideal.nD Cert.Kernel0Ideal.τ Cert.Kernel0Ideal.sig) → Buf (Elt Ideal) ℓ) (g : Dev Cert.Kernel0Ideal.nD → PrngReg), Pre_Kernel0Ideal m →
    θ_run (Cert.Kernel0Ideal.defs (F := Ideal)) (onTc (τ := Cert.Kernel0Ideal.τ) (Cert.Kernel0Ideal.main (F := Ideal))) ⟨m, fun _ => 0, g⟩ (fun r => (∀ c : Dev Cert.Kernel0Ideal.nD,
      r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
      ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
      ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
      ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
      ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4))
      ∧ r.2.sem = fun _ => 0)

def quiescent_Reference0Ideal [hReference0Ideal : Cert.Reference0Ideal.Facts] : Prop :=
  ∀ (m : (ℓ : Loc Cert.Reference0Ideal.nD Cert.Reference0Ideal.τ Cert.Reference0Ideal.sig) → Buf (Elt Ideal) ℓ) (g : Dev Cert.Reference0Ideal.nD → PrngReg), Pre_Reference0Ideal m →
    θ_run (Cert.Reference0Ideal.defs (F := Ideal)) (onTc (τ := Cert.Reference0Ideal.τ) (Cert.Reference0Ideal.main (F := Ideal))) ⟨m, fun _ => 0, g⟩ (fun r => (∀ c : Dev Cert.Reference0Ideal.nD,
      r.2.mem ((c.tc : Thread Cert.Reference0Ideal.nD Cert.Reference0Ideal.τ).loc Cert.Reference0Ideal.main_arg0) = m ((c.tc : Thread Cert.Reference0Ideal.nD Cert.Reference0Ideal.τ).loc Cert.Reference0Ideal.main_arg0)
      ∧ r.2.mem ((c.tc : Thread Cert.Reference0Ideal.nD Cert.Reference0Ideal.τ).loc Cert.Reference0Ideal.main_arg1) = m ((c.tc : Thread Cert.Reference0Ideal.nD Cert.Reference0Ideal.τ).loc Cert.Reference0Ideal.main_arg1)
      ∧ r.2.mem ((c.tc : Thread Cert.Reference0Ideal.nD Cert.Reference0Ideal.τ).loc Cert.Reference0Ideal.main_arg2) = m ((c.tc : Thread Cert.Reference0Ideal.nD Cert.Reference0Ideal.τ).loc Cert.Reference0Ideal.main_arg2)
      ∧ r.2.mem ((c.tc : Thread Cert.Reference0Ideal.nD Cert.Reference0Ideal.τ).loc Cert.Reference0Ideal.main_arg3) = m ((c.tc : Thread Cert.Reference0Ideal.nD Cert.Reference0Ideal.τ).loc Cert.Reference0Ideal.main_arg3)
      ∧ r.2.mem ((c.tc : Thread Cert.Reference0Ideal.nD Cert.Reference0Ideal.τ).loc Cert.Reference0Ideal.main_arg4) = m ((c.tc : Thread Cert.Reference0Ideal.nD Cert.Reference0Ideal.τ).loc Cert.Reference0Ideal.main_arg4))
      ∧ r.2.sem = fun _ => 0)

def quiescent_Kernel1 [hKernel1 : Cert.Kernel1.Facts] : Prop :=
  ∀ (m : (ℓ : Loc Cert.Kernel1.nD Cert.Kernel1.τ Cert.Kernel1.sig) → Buf (Elt Bits) ℓ) (g : Dev Cert.Kernel1.nD → PrngReg), Pre_Kernel1 m →
    θ_run (Cert.Kernel1.defs (F := Bits)) (onTc (τ := Cert.Kernel1.τ) (Cert.Kernel1.main (F := Bits))) ⟨m, fun _ => 0, g⟩ (fun r => (∀ c : Dev Cert.Kernel1.nD,
      r.2.mem ((c.tc : Thread Cert.Kernel1.nD Cert.Kernel1.τ).loc Cert.Kernel1.main_arg0) = m ((c.tc : Thread Cert.Kernel1.nD Cert.Kernel1.τ).loc Cert.Kernel1.main_arg0)
      ∧ r.2.mem ((c.tc : Thread Cert.Kernel1.nD Cert.Kernel1.τ).loc Cert.Kernel1.main_arg1) = m ((c.tc : Thread Cert.Kernel1.nD Cert.Kernel1.τ).loc Cert.Kernel1.main_arg1)
      ∧ r.2.mem ((c.tc : Thread Cert.Kernel1.nD Cert.Kernel1.τ).loc Cert.Kernel1.main_arg2) = m ((c.tc : Thread Cert.Kernel1.nD Cert.Kernel1.τ).loc Cert.Kernel1.main_arg2)
      ∧ r.2.mem ((c.tc : Thread Cert.Kernel1.nD Cert.Kernel1.τ).loc Cert.Kernel1.main_arg3) = m ((c.tc : Thread Cert.Kernel1.nD Cert.Kernel1.τ).loc Cert.Kernel1.main_arg3)
      ∧ r.2.mem ((c.tc : Thread Cert.Kernel1.nD Cert.Kernel1.τ).loc Cert.Kernel1.main_arg4) = m ((c.tc : Thread Cert.Kernel1.nD Cert.Kernel1.τ).loc Cert.Kernel1.main_arg4)
      ∧ r.2.mem ((c.tc : Thread Cert.Kernel1.nD Cert.Kernel1.τ).loc Cert.Kernel1.main_arg5) = m ((c.tc : Thread Cert.Kernel1.nD Cert.Kernel1.τ).loc Cert.Kernel1.main_arg5))
      ∧ r.2.sem = fun _ => 0)

def quiescent_Kernel1Ideal [hKernel1Ideal : Cert.Kernel1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg), Pre_Kernel1Ideal m →
    θ_run (Cert.Kernel1Ideal.defs (F := Ideal)) (onTc (τ := Cert.Kernel1Ideal.τ) (Cert.Kernel1Ideal.main (F := Ideal))) ⟨m, fun _ => 0, g⟩ (fun r => (∀ c : Dev Cert.Kernel1Ideal.nD,
      r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
      ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
      ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
      ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
      ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
      ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ r.2.sem = fun _ => 0)

def quiescent_Reference1Ideal [hReference1Ideal : Cert.Reference1Ideal.Facts] : Prop :=
  ∀ (m : (ℓ : Loc Cert.Reference1Ideal.nD Cert.Reference1Ideal.τ Cert.Reference1Ideal.sig) → Buf (Elt Ideal) ℓ) (g : Dev Cert.Reference1Ideal.nD → PrngReg), Pre_Reference1Ideal m →
    θ_run (Cert.Reference1Ideal.defs (F := Ideal)) (onTc (τ := Cert.Reference1Ideal.τ) (Cert.Reference1Ideal.main (F := Ideal))) ⟨m, fun _ => 0, g⟩ (fun r => (∀ c : Dev Cert.Reference1Ideal.nD,
      r.2.mem ((c.tc : Thread Cert.Reference1Ideal.nD Cert.Reference1Ideal.τ).loc Cert.Reference1Ideal.main_arg0) = m ((c.tc : Thread Cert.Reference1Ideal.nD Cert.Reference1Ideal.τ).loc Cert.Reference1Ideal.main_arg0)
      ∧ r.2.mem ((c.tc : Thread Cert.Reference1Ideal.nD Cert.Reference1Ideal.τ).loc Cert.Reference1Ideal.main_arg1) = m ((c.tc : Thread Cert.Reference1Ideal.nD Cert.Reference1Ideal.τ).loc Cert.Reference1Ideal.main_arg1)
      ∧ r.2.mem ((c.tc : Thread Cert.Reference1Ideal.nD Cert.Reference1Ideal.τ).loc Cert.Reference1Ideal.main_arg2) = m ((c.tc : Thread Cert.Reference1Ideal.nD Cert.Reference1Ideal.τ).loc Cert.Reference1Ideal.main_arg2)
      ∧ r.2.mem ((c.tc : Thread Cert.Reference1Ideal.nD Cert.Reference1Ideal.τ).loc Cert.Reference1Ideal.main_arg3) = m ((c.tc : Thread Cert.Reference1Ideal.nD Cert.Reference1Ideal.τ).loc Cert.Reference1Ideal.main_arg3)
      ∧ r.2.mem ((c.tc : Thread Cert.Reference1Ideal.nD Cert.Reference1Ideal.τ).loc Cert.Reference1Ideal.main_arg4) = m ((c.tc : Thread Cert.Reference1Ideal.nD Cert.Reference1Ideal.τ).loc Cert.Reference1Ideal.main_arg4)
      ∧ r.2.mem ((c.tc : Thread Cert.Reference1Ideal.nD Cert.Reference1Ideal.τ).loc Cert.Reference1Ideal.main_arg5) = m ((c.tc : Thread Cert.Reference1Ideal.nD Cert.Reference1Ideal.τ).loc Cert.Reference1Ideal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel0_Kernel0Ideal : Prop :=
  True

def algebraic_Kernel0Ideal_Reference0Ideal_on_columns0 [hKernel0Ideal : Cert.Kernel0Ideal.Facts] [hReference0Ideal : Cert.Reference0Ideal.Facts] [hOn_columns0 : Cert.On_columns0.Facts] : Prop :=
  ∀ (m : (ℓ : Loc Cert.Kernel0Ideal.nD Cert.Kernel0Ideal.τ Cert.Kernel0Ideal.sig) → Buf (Elt Ideal) ℓ) (g : Dev Cert.Kernel0Ideal.nD → PrngReg)
    (m' : (ℓ : Loc Cert.Reference0Ideal.nD Cert.Reference0Ideal.τ Cert.Reference0Ideal.sig) → Buf (Elt Ideal) ℓ) (g' : Dev Cert.Reference0Ideal.nD → PrngReg), Pre_Kernel0Ideal m →
    (∀ c : Dev Cert.Kernel0Ideal.nD,
      m' ((c.tc : Thread Cert.Reference0Ideal.nD Cert.Reference0Ideal.τ).loc Cert.Reference0Ideal.main_arg0) = m ((c.tc : Thread Cert.Kernel0Ideal.nD Cert.Kernel0Ideal.τ).loc Cert.Kernel0Ideal.main_arg0)
      ∧ m' ((c.tc : Thread Cert.Reference0Ideal.nD Cert.Reference0Ideal.τ).loc Cert.Reference0Ideal.main_arg1) = m ((c.tc : Thread Cert.Kernel0Ideal.nD Cert.Kernel0Ideal.τ).loc Cert.Kernel0Ideal.main_arg1)
      ∧ m' ((c.tc : Thread Cert.Reference0Ideal.nD Cert.Reference0Ideal.τ).loc Cert.Reference0Ideal.main_arg2) = m ((c.tc : Thread Cert.Kernel0Ideal.nD Cert.Kernel0Ideal.τ).loc Cert.Kernel0Ideal.main_arg2)
      ∧ m' ((c.tc : Thread Cert.Reference0Ideal.nD Cert.Reference0Ideal.τ).loc Cert.Reference0Ideal.main_arg3) = m ((c.tc : Thread Cert.Kernel0Ideal.nD Cert.Kernel0Ideal.τ).loc Cert.Kernel0Ideal.main_arg3)
      ∧ m' ((c.tc : Thread Cert.Reference0Ideal.nD Cert.Reference0Ideal.τ).loc Cert.Reference0Ideal.main_arg4) = m ((c.tc : Thread Cert.Kernel0Ideal.nD Cert.Kernel0Ideal.τ).loc Cert.Kernel0Ideal.main_arg4)) →
    ∃ (v0 : (c : Dev Cert.Kernel0Ideal.nD) → Buf (Elt Ideal) ((c.tc : Thread Cert.Kernel0Ideal.nD Cert.Kernel0Ideal.τ).loc Cert.Kernel0Ideal.main_v0)),
      θ_run (Cert.Kernel0Ideal.defs (F := Ideal)) (onTc (τ := Cert.Kernel0Ideal.τ) (Cert.Kernel0Ideal.main (F := Ideal))) ⟨m, fun _ => 0, g⟩ (fun r => ∀ c : Dev Cert.Kernel0Ideal.nD,
          (∀ i : (⟨2, ![320, 24576]⟩ : Shape).Idx, (Cert.On_columns0.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4))) i = 1#1 → r.2.mem ((c.tc : Thread Cert.Kernel0Ideal.nD Cert.Kernel0Ideal.τ).loc Cert.Kernel0Ideal.main_v0) i = v0 c i)
          ∧ r.2.mem ((c.tc : Thread Cert.Kernel0Ideal.nD Cert.Kernel0Ideal.τ).loc Cert.Kernel0Ideal.main_arg0) = m ((c.tc : Thread Cert.Kernel0Ideal.nD Cert.Kernel0Ideal.τ).loc Cert.Kernel0Ideal.main_arg0)
          ∧ r.2.mem ((c.tc : Thread Cert.Kernel0Ideal.nD Cert.Kernel0Ideal.τ).loc Cert.Kernel0Ideal.main_arg1) = m ((c.tc : Thread Cert.Kernel0Ideal.nD Cert.Kernel0Ideal.τ).loc Cert.Kernel0Ideal.main_arg1)
          ∧ r.2.mem ((c.tc : Thread Cert.Kernel0Ideal.nD Cert.Kernel0Ideal.τ).loc Cert.Kernel0Ideal.main_arg2) = m ((c.tc : Thread Cert.Kernel0Ideal.nD Cert.Kernel0Ideal.τ).loc Cert.Kernel0Ideal.main_arg2)
          ∧ r.2.mem ((c.tc : Thread Cert.Kernel0Ideal.nD Cert.Kernel0Ideal.τ).loc Cert.Kernel0Ideal.main_arg3) = m ((c.tc : Thread Cert.Kernel0Ideal.nD Cert.Kernel0Ideal.τ).loc Cert.Kernel0Ideal.main_arg3)
          ∧ r.2.mem ((c.tc : Thread Cert.Kernel0Ideal.nD Cert.Kernel0Ideal.τ).loc Cert.Kernel0Ideal.main_arg4) = m ((c.tc : Thread Cert.Kernel0Ideal.nD Cert.Kernel0Ideal.τ).loc Cert.Kernel0Ideal.main_arg4))
      ∧ θ_run (Cert.Reference0Ideal.defs (F := Ideal)) (onTc (τ := Cert.Reference0Ideal.τ) (Cert.Reference0Ideal.main (F := Ideal))) ⟨m', fun _ => 0, g'⟩ (fun r => ∀ c : Dev Cert.Reference0Ideal.nD,
          (∀ i : (⟨2, ![320, 24576]⟩ : Shape).Idx, (Cert.On_columns0.fn (F := Ideal) (m ((c.tc : Thread Cert.Kernel0Ideal.nD Cert.Kernel0Ideal.τ).loc Cert.Kernel0Ideal.main_arg0)) (m ((c.tc : Thread Cert.Kernel0Ideal.nD Cert.Kernel0Ideal.τ).loc Cert.Kernel0Ideal.main_arg1)) (m ((c.tc : Thread Cert.Kernel0Ideal.nD Cert.Kernel0Ideal.τ).loc Cert.Kernel0Ideal.main_arg2)) (m ((c.tc : Thread Cert.Kernel0Ideal.nD Cert.Kernel0Ideal.τ).loc Cert.Kernel0Ideal.main_arg3)) (m ((c.tc : Thread Cert.Kernel0Ideal.nD Cert.Kernel0Ideal.τ).loc Cert.Kernel0Ideal.main_arg4))) i = 1#1 → r.2.mem ((c.tc : Thread Cert.Reference0Ideal.nD Cert.Reference0Ideal.τ).loc Cert.Reference0Ideal.main_v42) i = v0 c i)
          ∧ r.2.mem ((c.tc : Thread Cert.Reference0Ideal.nD Cert.Reference0Ideal.τ).loc Cert.Reference0Ideal.main_arg0) = m' ((c.tc : Thread Cert.Reference0Ideal.nD Cert.Reference0Ideal.τ).loc Cert.Reference0Ideal.main_arg0)
          ∧ r.2.mem ((c.tc : Thread Cert.Reference0Ideal.nD Cert.Reference0Ideal.τ).loc Cert.Reference0Ideal.main_arg1) = m' ((c.tc : Thread Cert.Reference0Ideal.nD Cert.Reference0Ideal.τ).loc Cert.Reference0Ideal.main_arg1)
          ∧ r.2.mem ((c.tc : Thread Cert.Reference0Ideal.nD Cert.Reference0Ideal.τ).loc Cert.Reference0Ideal.main_arg2) = m' ((c.tc : Thread Cert.Reference0Ideal.nD Cert.Reference0Ideal.τ).loc Cert.Reference0Ideal.main_arg2)
          ∧ r.2.mem ((c.tc : Thread Cert.Reference0Ideal.nD Cert.Reference0Ideal.τ).loc Cert.Reference0Ideal.main_arg3) = m' ((c.tc : Thread Cert.Reference0Ideal.nD Cert.Reference0Ideal.τ).loc Cert.Reference0Ideal.main_arg3)
          ∧ r.2.mem ((c.tc : Thread Cert.Reference0Ideal.nD Cert.Reference0Ideal.τ).loc Cert.Reference0Ideal.main_arg4) = m' ((c.tc : Thread Cert.Reference0Ideal.nD Cert.Reference0Ideal.τ).loc Cert.Reference0Ideal.main_arg4))

def preserves_Kernel1_Kernel1Ideal : Prop :=
  True

def algebraic_Kernel1Ideal_Reference1Ideal [hKernel1Ideal : Cert.Kernel1Ideal.Facts] [hReference1Ideal : Cert.Reference1Ideal.Facts] : Prop :=
  ∀ (m : (ℓ : Loc Cert.Kernel1Ideal.nD Cert.Kernel1Ideal.τ Cert.Kernel1Ideal.sig) → Buf (Elt Ideal) ℓ) (g : Dev Cert.Kernel1Ideal.nD → PrngReg)
    (m' : (ℓ : Loc Cert.Reference1Ideal.nD Cert.Reference1Ideal.τ Cert.Reference1Ideal.sig) → Buf (Elt Ideal) ℓ) (g' : Dev Cert.Reference1Ideal.nD → PrngReg), Pre_Kernel1Ideal m →
    (∀ c : Dev Cert.Kernel1Ideal.nD,
      m' ((c.tc : Thread Cert.Reference1Ideal.nD Cert.Reference1Ideal.τ).loc Cert.Reference1Ideal.main_arg0) = m ((c.tc : Thread Cert.Kernel1Ideal.nD Cert.Kernel1Ideal.τ).loc Cert.Kernel1Ideal.main_arg0)
      ∧ m' ((c.tc : Thread Cert.Reference1Ideal.nD Cert.Reference1Ideal.τ).loc Cert.Reference1Ideal.main_arg1) = m ((c.tc : Thread Cert.Kernel1Ideal.nD Cert.Kernel1Ideal.τ).loc Cert.Kernel1Ideal.main_arg1)
      ∧ m' ((c.tc : Thread Cert.Reference1Ideal.nD Cert.Reference1Ideal.τ).loc Cert.Reference1Ideal.main_arg2) = m ((c.tc : Thread Cert.Kernel1Ideal.nD Cert.Kernel1Ideal.τ).loc Cert.Kernel1Ideal.main_arg2)
      ∧ m' ((c.tc : Thread Cert.Reference1Ideal.nD Cert.Reference1Ideal.τ).loc Cert.Reference1Ideal.main_arg3) = m ((c.tc : Thread Cert.Kernel1Ideal.nD Cert.Kernel1Ideal.τ).loc Cert.Kernel1Ideal.main_arg3)
      ∧ m' ((c.tc : Thread Cert.Reference1Ideal.nD Cert.Reference1Ideal.τ).loc Cert.Reference1Ideal.main_arg4) = m ((c.tc : Thread Cert.Kernel1Ideal.nD Cert.Kernel1Ideal.τ).loc Cert.Kernel1Ideal.main_arg4)
      ∧ m' ((c.tc : Thread Cert.Reference1Ideal.nD Cert.Reference1Ideal.τ).loc Cert.Reference1Ideal.main_arg5) = m ((c.tc : Thread Cert.Kernel1Ideal.nD Cert.Kernel1Ideal.τ).loc Cert.Kernel1Ideal.main_arg5)) →
    ∃ (v0 : (c : Dev Cert.Kernel1Ideal.nD) → Buf (Elt Ideal) ((c.tc : Thread Cert.Kernel1Ideal.nD Cert.Kernel1Ideal.τ).loc Cert.Kernel1Ideal.main_v0)),
      θ_run (Cert.Kernel1Ideal.defs (F := Ideal)) (onTc (τ := Cert.Kernel1Ideal.τ) (Cert.Kernel1Ideal.main (F := Ideal))) ⟨m, fun _ => 0, g⟩ (fun r => ∀ c : Dev Cert.Kernel1Ideal.nD,
          r.2.mem ((c.tc : Thread Cert.Kernel1Ideal.nD Cert.Kernel1Ideal.τ).loc Cert.Kernel1Ideal.main_v0) = v0 c
          ∧ r.2.mem ((c.tc : Thread Cert.Kernel1Ideal.nD Cert.Kernel1Ideal.τ).loc Cert.Kernel1Ideal.main_arg0) = m ((c.tc : Thread Cert.Kernel1Ideal.nD Cert.Kernel1Ideal.τ).loc Cert.Kernel1Ideal.main_arg0)
          ∧ r.2.mem ((c.tc : Thread Cert.Kernel1Ideal.nD Cert.Kernel1Ideal.τ).loc Cert.Kernel1Ideal.main_arg1) = m ((c.tc : Thread Cert.Kernel1Ideal.nD Cert.Kernel1Ideal.τ).loc Cert.Kernel1Ideal.main_arg1)
          ∧ r.2.mem ((c.tc : Thread Cert.Kernel1Ideal.nD Cert.Kernel1Ideal.τ).loc Cert.Kernel1Ideal.main_arg2) = m ((c.tc : Thread Cert.Kernel1Ideal.nD Cert.Kernel1Ideal.τ).loc Cert.Kernel1Ideal.main_arg2)
          ∧ r.2.mem ((c.tc : Thread Cert.Kernel1Ideal.nD Cert.Kernel1Ideal.τ).loc Cert.Kernel1Ideal.main_arg3) = m ((c.tc : Thread Cert.Kernel1Ideal.nD Cert.Kernel1Ideal.τ).loc Cert.Kernel1Ideal.main_arg3)
          ∧ r.2.mem ((c.tc : Thread Cert.Kernel1Ideal.nD Cert.Kernel1Ideal.τ).loc Cert.Kernel1Ideal.main_arg4) = m ((c.tc : Thread Cert.Kernel1Ideal.nD Cert.Kernel1Ideal.τ).loc Cert.Kernel1Ideal.main_arg4)
          ∧ r.2.mem ((c.tc : Thread Cert.Kernel1Ideal.nD Cert.Kernel1Ideal.τ).loc Cert.Kernel1Ideal.main_arg5) = m ((c.tc : Thread Cert.Kernel1Ideal.nD Cert.Kernel1Ideal.τ).loc Cert.Kernel1Ideal.main_arg5))
      ∧ θ_run (Cert.Reference1Ideal.defs (F := Ideal)) (onTc (τ := Cert.Reference1Ideal.τ) (Cert.Reference1Ideal.main (F := Ideal))) ⟨m', fun _ => 0, g'⟩ (fun r => ∀ c : Dev Cert.Reference1Ideal.nD,
          r.2.mem ((c.tc : Thread Cert.Reference1Ideal.nD Cert.Reference1Ideal.τ).loc Cert.Reference1Ideal.main_v41) = v0 c
          ∧ r.2.mem ((c.tc : Thread Cert.Reference1Ideal.nD Cert.Reference1Ideal.τ).loc Cert.Reference1Ideal.main_arg0) = m' ((c.tc : Thread Cert.Reference1Ideal.nD Cert.Reference1Ideal.τ).loc Cert.Reference1Ideal.main_arg0)
          ∧ r.2.mem ((c.tc : Thread Cert.Reference1Ideal.nD Cert.Reference1Ideal.τ).loc Cert.Reference1Ideal.main_arg1) = m' ((c.tc : Thread Cert.Reference1Ideal.nD Cert.Reference1Ideal.τ).loc Cert.Reference1Ideal.main_arg1)
          ∧ r.2.mem ((c.tc : Thread Cert.Reference1Ideal.nD Cert.Reference1Ideal.τ).loc Cert.Reference1Ideal.main_arg2) = m' ((c.tc : Thread Cert.Reference1Ideal.nD Cert.Reference1Ideal.τ).loc Cert.Reference1Ideal.main_arg2)
          ∧ r.2.mem ((c.tc : Thread Cert.Reference1Ideal.nD Cert.Reference1Ideal.τ).loc Cert.Reference1Ideal.main_arg3) = m' ((c.tc : Thread Cert.Reference1Ideal.nD Cert.Reference1Ideal.τ).loc Cert.Reference1Ideal.main_arg3)
          ∧ r.2.mem ((c.tc : Thread Cert.Reference1Ideal.nD Cert.Reference1Ideal.τ).loc Cert.Reference1Ideal.main_arg4) = m' ((c.tc : Thread Cert.Reference1Ideal.nD Cert.Reference1Ideal.τ).loc Cert.Reference1Ideal.main_arg4)
          ∧ r.2.mem ((c.tc : Thread Cert.Reference1Ideal.nD Cert.Reference1Ideal.τ).loc Cert.Reference1Ideal.main_arg5) = m' ((c.tc : Thread Cert.Reference1Ideal.nD Cert.Reference1Ideal.τ).loc Cert.Reference1Ideal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v41) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v41) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v41) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v41) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel0 : Cert.Kernel0.Facts) (hKernel0Ideal : Cert.Kernel0Ideal.Facts) (hReference0Ideal : Cert.Reference0Ideal.Facts) (hKernel1 : Cert.Kernel1.Facts) (hKernel1Ideal : Cert.Kernel1Ideal.Facts) (hReference1Ideal : Cert.Reference1Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hOn_columns0 : Cert.On_columns0.Facts),
    quiescent_Kernel0 (hKernel0 := hKernel0)
    ∧ quiescent_Kernel0Ideal (hKernel0Ideal := hKernel0Ideal)
    ∧ quiescent_Reference0Ideal (hReference0Ideal := hReference0Ideal)
    ∧ quiescent_Kernel1 (hKernel1 := hKernel1)
    ∧ quiescent_Kernel1Ideal (hKernel1Ideal := hKernel1Ideal)
    ∧ quiescent_Reference1Ideal (hReference1Ideal := hReference1Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel0_Kernel0Ideal
    ∧ algebraic_Kernel0Ideal_Reference0Ideal_on_columns0 (hKernel0Ideal := hKernel0Ideal) (hReference0Ideal := hReference0Ideal) (hOn_columns0 := hOn_columns0)
    ∧ preserves_Kernel1_Kernel1Ideal
    ∧ algebraic_Kernel1Ideal_Reference1Ideal (hKernel1Ideal := hKernel1Ideal) (hReference1Ideal := hReference1Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== On_columns0.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S_ : Shape := ⟨0, ![]⟩

class Facts : Prop where
  bcast_S_S320x24576 : S_.BroadcastsInDim S320x24576 (![] : Fin 0 → Fin S320x24576.rank)

variable [Facts]

def fn {F : FTy → Type} [FloatOps F] (main_arg0 : FVec F S320x3072 .bf16) (main_arg1 : IVec S24x2048x128 32) (main_arg2 : IVec S24x2048x128 32) (main_arg3 : IVec S24x128x128 32) (main_arg4 : IVec S24x128x128 32) : IVec S320x24576 1 :=
  let main_v0 : IVec S320x24576 32 := iotaInDim S320x24576 32 1
  let main_c : IVec S_ 32 := constantI S_ 32 4096#32
  let main_v1 : IVec S320x24576 32 := broadcastInDim S320x24576 ![] bcast_S_S320x24576 main_c
  let main_v2 : IVec S320x24576 1 := cmpi .slt main_v0 main_v1
  main_v2
-- ==== Kernel0.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 6
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference0Ideal.lean ====
abbrev S320x3072 : Shape := ⟨2, ![320, 3072]⟩
abbrev S24x2048x128 : Shape := ⟨3, ![24, 2048, 128]⟩
abbrev S24x128x128 : Shape := ⟨3, ![24, 128, 128]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩
abbrev S320x20480 : Shape := ⟨2, ![320, 20480]⟩
abbrev S320x24576 : Shape := ⟨2, ![320, 24576]⟩

abbrev nBuf : Space → Nat
  | .hbm => 65
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S24x2048x128x2, .bf16⟩
  | .hbm, ⟨6, _⟩ => ⟨S24x128x2048x2, .bf16⟩
  | .hbm, ⟨7, _⟩ => ⟨S3072x4096, .bf16⟩
  | .hbm, ⟨8, _⟩ => ⟨S24x16x2x4x128, .i32⟩
  | .hbm, ⟨9, _⟩ => ⟨S24x128x16x4x2, .i32⟩
  | .hbm, ⟨10, _⟩ => ⟨S3072x128, .i32⟩
  | .hbm, ⟨11, _⟩ => ⟨S3072x128x1, .i32⟩
  | .hbm, ⟨12, _⟩ => ⟨S32, .i32⟩
  | .hbm, ⟨13, _⟩ => ⟨S1x1x32, .i32⟩
  | .hbm, ⟨14, _⟩ => ⟨S3072x128x32, .i32⟩
  | .hbm, ⟨15, _⟩ => ⟨S3072x128x32, .i32⟩
  | .hbm, ⟨16, _⟩ => ⟨S3072x128x32, .i32⟩
  | .hbm, ⟨17, _⟩ => ⟨S_, .i32⟩
  | .hbm, ⟨18, _⟩ => ⟨S3072x128x32, .i32⟩
  | .hbm, ⟨19, _⟩ => ⟨S3072x128x32, .i32⟩
  | .hbm, ⟨20, _⟩ => ⟨S3072x4096, .i32⟩
  | .hbm, ⟨21, _⟩ => ⟨S_, .i32⟩
  | .hbm, ⟨22, _⟩ => ⟨S3072x4096, .i32⟩
  | .hbm, ⟨23, _⟩ => ⟨S3072x4096, .i1⟩
  | .hbm, ⟨24, _⟩ => ⟨S_, .bf16⟩
  | .hbm, ⟨25, _⟩ => ⟨S3072x4096, .bf16⟩
  | .hbm, ⟨26, _⟩ => ⟨S3072x4096, .bf16⟩
  | .hbm, ⟨27, _⟩ => ⟨S320x4096, .f32⟩
  | .hbm, ⟨28, _⟩ => ⟨S24x2048x128x2, .bf16⟩
  | .hbm, ⟨29, _⟩ => ⟨S24x128x2048x2, .bf16⟩
  | .hbm, ⟨30, _⟩ => ⟨S3072x4096, .bf16⟩
  | .hbm, ⟨31, _⟩ => ⟨S24x16x2x4x128, .i32⟩
  | .hbm, ⟨32, _⟩ => ⟨S24x128x16x4x2, .i32⟩
  | .hbm, ⟨33, _⟩ => ⟨S3072x128, .i32⟩
  | .hbm, ⟨34, _⟩ => ⟨S3072x128x1, .i32⟩
  | .hbm, ⟨35, _⟩ => ⟨S32, .i32⟩
  | .hbm, ⟨36, _⟩ => ⟨S1x1x32, .i32⟩
  | .hbm, ⟨37, _⟩ => ⟨S3072x128x32, .i32⟩
  | .hbm, ⟨38, _⟩ => ⟨S3072x128x32, .i32⟩
  | .hbm, ⟨39, _⟩ => ⟨S3072x128x32, .i32⟩
  | .hbm, ⟨40, _⟩ => ⟨S_, .i32⟩
  | .hbm, ⟨41, _⟩ => ⟨S3072x128x32, .i32⟩
  | .hbm, ⟨42, _⟩ => ⟨S3072x128x32, .i32⟩
  | .hbm, ⟨43, _⟩ => ⟨S3072x4096, .i32⟩
  | .hbm, ⟨44, _⟩ => ⟨S_, .i32⟩
  | .hbm, ⟨45, _⟩ => ⟨S3072x4096, .i32⟩
  | .hbm, ⟨46, _⟩ => ⟨S3072x4096, .i1⟩
  | .hbm, ⟨47, _⟩ => ⟨S_, .bf16⟩
  | .hbm, ⟨48, _⟩ => ⟨S3072x4096, .bf16⟩
  | .hbm, ⟨49, _⟩ => ⟨S3072x4096, .bf16⟩
  | .hbm, ⟨50, _⟩ => ⟨S320x4096, .f32⟩
  | .hbm, ⟨51, _⟩ => ⟨S320x4096, .f32⟩
  | .hbm, ⟨52, _⟩ => ⟨S320x4096, .f32⟩
  | .hbm, ⟨53, _⟩ => ⟨S_, .f32⟩
  | .hbm, ⟨54, _⟩ => ⟨S320x4096, .f32⟩
  | .hbm, ⟨55, _⟩ => ⟨S320x4096, .f32⟩
  | .hbm, ⟨56, _⟩ => ⟨S_, .f32⟩
  | .hbm, ⟨57, _⟩ => ⟨S320x4096, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .bf16⟩
  | .hbm, ⟨62, _⟩ => ⟨S_, .bf16⟩
  | .hbm, ⟨63, _⟩ => ⟨S320x20480, .bf16⟩
  | .hbm, ⟨64, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_call0_v0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_call1_v0 : Ref sig .tc := ⟨.hbm, 48, rfl⟩
abbrev main_v36 : Ref sig .tc := ⟨.hbm, 49, rfl⟩
abbrev main_v37 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== Kernel1.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference1Ideal.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩

abbrev nBuf : Space → Nat
  | .hbm => 66
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S24x2048x128x2, .bf16⟩
  | .hbm, ⟨7, _⟩ => ⟨S24x128x2048x2, .bf16⟩
  | .hbm, ⟨8, _⟩ => ⟨S3072x4096, .bf16⟩
  | .hbm, ⟨9, _⟩ => ⟨S24x16x2x4x128, .i32⟩
  | .hbm, ⟨10, _⟩ => ⟨S24x128x16x4x2, .i32⟩
  | .hbm, ⟨11, _⟩ => ⟨S3072x128, .i32⟩
  | .hbm, ⟨12, _⟩ => ⟨S3072x128x1, .i32⟩
  | .hbm, ⟨13, _⟩ => ⟨S32, .i32⟩
  | .hbm, ⟨14, _⟩ => ⟨S1x1x32, .i32⟩
  | .hbm, ⟨15, _⟩ => ⟨S3072x128x32, .i32⟩
  | .hbm, ⟨16, _⟩ => ⟨S3072x128x32, .i32⟩
  | .hbm, ⟨17, _⟩ => ⟨S3072x128x32, .i32⟩
  | .hbm, ⟨18, _⟩ => ⟨S_, .i32⟩
  | .hbm, ⟨19, _⟩ => ⟨S3072x128x32, .i32⟩
  | .hbm, ⟨20, _⟩ => ⟨S3072x128x32, .i32⟩
  | .hbm, ⟨21, _⟩ => ⟨S3072x4096, .i32⟩
  | .hbm, ⟨22, _⟩ => ⟨S_, .i32⟩
  | .hbm, ⟨23, _⟩ => ⟨S3072x4096, .i32⟩
  | .hbm, ⟨24, _⟩ => ⟨S3072x4096, .i1⟩
  | .hbm, ⟨25, _⟩ => ⟨S_, .bf16⟩
  | .hbm, ⟨26, _⟩ => ⟨S3072x4096, .bf16⟩
  | .hbm, ⟨27, _⟩ => ⟨S3072x4096, .bf16⟩
  | .hbm, ⟨28, _⟩ => ⟨S320x4096, .f32⟩
  | .hbm, ⟨29, _⟩ => ⟨S24x2048x128x2, .bf16⟩
  | .hbm, ⟨30, _⟩ => ⟨S24x128x2048x2, .bf16⟩
  | .hbm, ⟨31, _⟩ => ⟨S3072x4096, .bf16⟩
  | .hbm, ⟨32, _⟩ => ⟨S24x16x2x4x128, .i32⟩
  | .hbm, ⟨33, _⟩ => ⟨S24x128x16x4x2, .i32⟩
  | .hbm, ⟨34, _⟩ => ⟨S3072x128, .i32⟩
  | .hbm, ⟨35, _⟩ => ⟨S3072x128x1, .i32⟩
  | .hbm, ⟨36, _⟩ => ⟨S32, .i32⟩
  | .hbm, ⟨37, _⟩ => ⟨S1x1x32, .i32⟩
  | .hbm, ⟨38, _⟩ => ⟨S3072x128x32, .i32⟩
  | .hbm, ⟨39, _⟩ => ⟨S3072x128x32, .i32⟩
  | .hbm, ⟨40, _⟩ => ⟨S3072x128x32, .i32⟩
  | .hbm, ⟨41, _⟩ => ⟨S_, .i32⟩
  | .hbm, ⟨42, _⟩ => ⟨S3072x128x32, .i32⟩
  | .hbm, ⟨43, _⟩ => ⟨S3072x128x32, .i32⟩
  | .hbm, ⟨44, _⟩ => ⟨S3072x4096, .i32⟩
  | .hbm, ⟨45, _⟩ => ⟨S_, .i32⟩
  | .hbm, ⟨46, _⟩ => ⟨S3072x4096, .i32⟩
  | .hbm, ⟨47, _⟩ => ⟨S3072x4096, .i1⟩
  | .hbm, ⟨48, _⟩ => ⟨S_, .bf16⟩
  | .hbm, ⟨49, _⟩ => ⟨S3072x4096, .bf16⟩
  | .hbm, ⟨50, _⟩ => ⟨S3072x4096, .bf16⟩
  | .hbm, ⟨51, _⟩ => ⟨S320x4096, .f32⟩
  | .hbm, ⟨52, _⟩ => ⟨S320x4096, .f32⟩
  | .hbm, ⟨53, _⟩ => ⟨S320x4096, .f32⟩
  | .hbm, ⟨54, _⟩ => ⟨S_, .f32⟩
  | .hbm, ⟨55, _⟩ => ⟨S320x4096, .f32⟩
  | .hbm, ⟨56, _⟩ => ⟨S320x4096, .f32⟩
  | .hbm, ⟨57, _⟩ => ⟨S_, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .f32⟩
  | .hbm, ⟨62, _⟩ => ⟨S320x4096, .bf16⟩
  | .hbm, ⟨63, _⟩ => ⟨S_, .i32⟩
  | .hbm, ⟨64, _⟩ => ⟨S_, .i32⟩
  | .hbm, ⟨65, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_c_5 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel2.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩

abbrev nBuf : Space → Nat
  | .hbm => 66
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S24x2048x128x2, .bf16⟩
  | .hbm, ⟨7, _⟩ => ⟨S24x128x2048x2, .bf16⟩
  | .hbm, ⟨8, _⟩ => ⟨S3072x4096, .bf16⟩
  | .hbm, ⟨9, _⟩ => ⟨S24x16x2x4x128, .i32⟩
  | .hbm, ⟨10, _⟩ => ⟨S24x128x16x4x2, .i32⟩
  | .hbm, ⟨11, _⟩ => ⟨S3072x128, .i32⟩
  | .hbm, ⟨12, _⟩ => ⟨S3072x128x1, .i32⟩
  | .hbm, ⟨13, _⟩ => ⟨S32, .i32⟩
  | .hbm, ⟨14, _⟩ => ⟨S1x1x32, .i32⟩
  | .hbm, ⟨15, _⟩ => ⟨S3072x128x32, .i32⟩
  | .hbm, ⟨16, _⟩ => ⟨S3072x128x32, .i32⟩
  | .hbm, ⟨17, _⟩ => ⟨S3072x128x32, .i32⟩
  | .hbm, ⟨18, _⟩ => ⟨S_, .i32⟩
  | .hbm, ⟨19, _⟩ => ⟨S3072x128x32, .i32⟩
  | .hbm, ⟨20, _⟩ => ⟨S3072x128x32, .i32⟩
  | .hbm, ⟨21, _⟩ => ⟨S3072x4096, .i32⟩
  | .hbm, ⟨22, _⟩ => ⟨S_, .i32⟩
  | .hbm, ⟨23, _⟩ => ⟨S3072x4096, .i32⟩
  | .hbm, ⟨24, _⟩ => ⟨S3072x4096, .i1⟩
  | .hbm, ⟨25, _⟩ => ⟨S_, .bf16⟩
  | .hbm, ⟨26, _⟩ => ⟨S3072x4096, .bf16⟩
  | .hbm, ⟨27, _⟩ => ⟨S3072x4096, .bf16⟩
  | .hbm, ⟨28, _⟩ => ⟨S320x4096, .f32⟩
  | .hbm, ⟨29, _⟩ => ⟨S24x2048x128x2, .bf16⟩
  | .hbm, ⟨30, _⟩ => ⟨S24x128x2048x2, .bf16⟩
  | .hbm, ⟨31, _⟩ => ⟨S3072x4096, .bf16⟩
  | .hbm, ⟨32, _⟩ => ⟨S24x16x2x4x128, .i32⟩
  | .hbm, ⟨33, _⟩ => ⟨S24x128x16x4x2, .i32⟩
  | .hbm, ⟨34, _⟩ => ⟨S3072x128, .i32⟩
  | .hbm, ⟨35, _⟩ => ⟨S3072x128x1, .i32⟩
  | .hbm, ⟨36, _⟩ => ⟨S32, .i32⟩
  | .hbm, ⟨37, _⟩ => ⟨S1x1x32, .i32⟩
  | .hbm, ⟨38, _⟩ => ⟨S3072x128x32, .i32⟩
  | .hbm, ⟨39, _⟩ => ⟨S3072x128x32, .i32⟩
  | .hbm, ⟨40, _⟩ => ⟨S3072x128x32, .i32⟩
  | .hbm, ⟨41, _⟩ => ⟨S_, .i32⟩
  | .hbm, ⟨42, _⟩ => ⟨S3072x128x32, .i32⟩
  | .hbm, ⟨43, _⟩ => ⟨S3072x128x32, .i32⟩
  | .hbm, ⟨44, _⟩ => ⟨S3072x4096, .i32⟩
  | .hbm, ⟨45, _⟩ => ⟨S_, .i32⟩
  | .hbm, ⟨46, _⟩ => ⟨S3072x4096, .i32⟩
  | .hbm, ⟨47, _⟩ => ⟨S3072x4096, .i1⟩
  | .hbm, ⟨48, _⟩ => ⟨S_, .bf16⟩
  | .hbm, ⟨49, _⟩ => ⟨S3072x4096, .bf16⟩
  | .hbm, ⟨50, _⟩ => ⟨S3072x4096, .bf16⟩
  | .hbm, ⟨51, _⟩ => ⟨S320x4096, .f32⟩
  | .hbm, ⟨52, _⟩ => ⟨S320x4096, .f32⟩
  | .hbm, ⟨53, _⟩ => ⟨S320x4096, .f32⟩
  | .hbm, ⟨54, _⟩ => ⟨S_, .f32⟩
  | .hbm, ⟨55, _⟩ => ⟨S320x4096, .f32⟩
  | .hbm, ⟨56, _⟩ => ⟨S320x4096, .f32⟩
  | .hbm, ⟨57, _⟩ => ⟨S_, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .f32⟩
  | .hbm, ⟨62, _⟩ => ⟨S320x4096, .bf16⟩
  | .hbm, ⟨63, _⟩ => ⟨S_, .i32⟩
  | .hbm, ⟨64, _⟩ => ⟨S_, .i32⟩
  | .hbm, ⟨65, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_c_5 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel3.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c48_i32 : BitVec 32 := 48#32
  let v0 : BitVec 32 := Scalar.addi c48_i32 arg0
  let c0_i32 : BitVec 32 := 0#32
  let c0_i32_0 : BitVec 32 := 0#32
  ![c0_i32.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩

abbrev nBuf : Space → Nat
  | .hbm => 66
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S24x2048x128x2, .bf16⟩
  | .hbm, ⟨7, _⟩ => ⟨S24x128x2048x2, .bf16⟩
  | .hbm, ⟨8, _⟩ => ⟨S3072x4096, .bf16⟩
  | .hbm, ⟨9, _⟩ => ⟨S24x16x2x4x128, .i32⟩
  | .hbm, ⟨10, _⟩ => ⟨S24x128x16x4x2, .i32⟩
  | .hbm, ⟨11, _⟩ => ⟨S3072x128, .i32⟩
  | .hbm, ⟨12, _⟩ => ⟨S3072x128x1, .i32⟩
  | .hbm, ⟨13, _⟩ => ⟨S32, .i32⟩
  | .hbm, ⟨14, _⟩ => ⟨S1x1x32, .i32⟩
  | .hbm, ⟨15, _⟩ => ⟨S3072x128x32, .i32⟩
  | .hbm, ⟨16, _⟩ => ⟨S3072x128x32, .i32⟩
  | .hbm, ⟨17, _⟩ => ⟨S3072x128x32, .i32⟩
  | .hbm, ⟨18, _⟩ => ⟨S_, .i32⟩
  | .hbm, ⟨19, _⟩ => ⟨S3072x128x32, .i32⟩
  | .hbm, ⟨20, _⟩ => ⟨S3072x128x32, .i32⟩
  | .hbm, ⟨21, _⟩ => ⟨S3072x4096, .i32⟩
  | .hbm, ⟨22, _⟩ => ⟨S_, .i32⟩
  | .hbm, ⟨23, _⟩ => ⟨S3072x4096, .i32⟩
  | .hbm, ⟨24, _⟩ => ⟨S3072x4096, .i1⟩
  | .hbm, ⟨25, _⟩ => ⟨S_, .bf16⟩
  | .hbm, ⟨26, _⟩ => ⟨S3072x4096, .bf16⟩
  | .hbm, ⟨27, _⟩ => ⟨S3072x4096, .bf16⟩
  | .hbm, ⟨28, _⟩ => ⟨S320x4096, .f32⟩
  | .hbm, ⟨29, _⟩ => ⟨S24x2048x128x2, .bf16⟩
  | .hbm, ⟨30, _⟩ => ⟨S24x128x2048x2, .bf16⟩
  | .hbm, ⟨31, _⟩ => ⟨S3072x4096, .bf16⟩
  | .hbm, ⟨32, _⟩ => ⟨S24x16x2x4x128, .i32⟩
  | .hbm, ⟨33, _⟩ => ⟨S24x128x16x4x2, .i32⟩
  | .hbm, ⟨34, _⟩ => ⟨S3072x128, .i32⟩
  | .hbm, ⟨35, _⟩ => ⟨S3072x128x1, .i32⟩
  | .hbm, ⟨36, _⟩ => ⟨S32, .i32⟩
  | .hbm, ⟨37, _⟩ => ⟨S1x1x32, .i32⟩
  | .hbm, ⟨38, _⟩ => ⟨S3072x128x32, .i32⟩
  | .hbm, ⟨39, _⟩ => ⟨S3072x128x32, .i32⟩
  | .hbm, ⟨40, _⟩ => ⟨S3072x128x32, .i32⟩
  | .hbm, ⟨41, _⟩ => ⟨S_, .i32⟩
  | .hbm, ⟨42, _⟩ => ⟨S3072x128x32, .i32⟩
  | .hbm, ⟨43, _⟩ => ⟨S3072x128x32, .i32⟩
  | .hbm, ⟨44, _⟩ => ⟨S3072x4096, .i32⟩
  | .hbm, ⟨45, _⟩ => ⟨S_, .i32⟩
  | .hbm, ⟨46, _⟩ => ⟨S3072x4096, .i32⟩
  | .hbm, ⟨47, _⟩ => ⟨S3072x4096, .i1⟩
  | .hbm, ⟨48, _⟩ => ⟨S_, .bf16⟩
  | .hbm, ⟨49, _⟩ => ⟨S3072x4096, .bf16⟩
  | .hbm, ⟨50, _⟩ => ⟨S3072x4096, .bf16⟩
  | .hbm, ⟨51, _⟩ => ⟨S320x4096, .f32⟩
  | .hbm, ⟨52, _⟩ => ⟨S320x4096, .f32⟩
  | .hbm, ⟨53, _⟩ => ⟨S320x4096, .f32⟩
  | .hbm, ⟨54, _⟩ => ⟨S_, .f32⟩
  | .hbm, ⟨55, _⟩ => ⟨S320x4096, .f32⟩
  | .hbm, ⟨56, _⟩ => ⟨S320x4096, .f32⟩
  | .hbm, ⟨57, _⟩ => ⟨S_, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .f32⟩
  | .hbm, ⟨62, _⟩ => ⟨S320x4096, .bf16⟩
  | .hbm, ⟨63, _⟩ => ⟨S_, .i32⟩
  | .hbm, ⟨64, _⟩ => ⟨S_, .i32⟩
  | .hbm, ⟨65, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_c_5 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel4.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![c0_i32.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩

abbrev nBuf : Space → Nat
  | .hbm => 66
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S24x2048x128x2, .bf16⟩
  | .hbm, ⟨7, _⟩ => ⟨S24x128x2048x2, .bf16⟩
  | .hbm, ⟨8, _⟩ => ⟨S3072x4096, .bf16⟩
  | .hbm, ⟨9, _⟩ => ⟨S24x16x2x4x128, .i32⟩
  | .hbm, ⟨10, _⟩ => ⟨S24x128x16x4x2, .i32⟩
  | .hbm, ⟨11, _⟩ => ⟨S3072x128, .i32⟩
  | .hbm, ⟨12, _⟩ => ⟨S3072x128x1, .i32⟩
  | .hbm, ⟨13, _⟩ => ⟨S32, .i32⟩
  | .hbm, ⟨14, _⟩ => ⟨S1x1x32, .i32⟩
  | .hbm, ⟨15, _⟩ => ⟨S3072x128x32, .i32⟩
  | .hbm, ⟨16, _⟩ => ⟨S3072x128x32, .i32⟩
  | .hbm, ⟨17, _⟩ => ⟨S3072x128x32, .i32⟩
  | .hbm, ⟨18, _⟩ => ⟨S_, .i32⟩
  | .hbm, ⟨19, _⟩ => ⟨S3072x128x32, .i32⟩
  | .hbm, ⟨20, _⟩ => ⟨S3072x128x32, .i32⟩
  | .hbm, ⟨21, _⟩ => ⟨S3072x4096, .i32⟩
  | .hbm, ⟨22, _⟩ => ⟨S_, .i32⟩
  | .hbm, ⟨23, _⟩ => ⟨S3072x4096, .i32⟩
  | .hbm, ⟨24, _⟩ => ⟨S3072x4096, .i1⟩
  | .hbm, ⟨25, _⟩ => ⟨S_, .bf16⟩
  | .hbm, ⟨26, _⟩ => ⟨S3072x4096, .bf16⟩
  | .hbm, ⟨27, _⟩ => ⟨S3072x4096, .bf16⟩
  | .hbm, ⟨28, _⟩ => ⟨S320x4096, .f32⟩
  | .hbm, ⟨29, _⟩ => ⟨S24x2048x128x2, .bf16⟩
  | .hbm, ⟨30, _⟩ => ⟨S24x128x2048x2, .bf16⟩
  | .hbm, ⟨31, _⟩ => ⟨S3072x4096, .bf16⟩
  | .hbm, ⟨32, _⟩ => ⟨S24x16x2x4x128, .i32⟩
  | .hbm, ⟨33, _⟩ => ⟨S24x128x16x4x2, .i32⟩
  | .hbm, ⟨34, _⟩ => ⟨S3072x128, .i32⟩
  | .hbm, ⟨35, _⟩ => ⟨S3072x128x1, .i32⟩
  | .hbm, ⟨36, _⟩ => ⟨S32, .i32⟩
  | .hbm, ⟨37, _⟩ => ⟨S1x1x32, .i32⟩
  | .hbm, ⟨38, _⟩ => ⟨S3072x128x32, .i32⟩
  | .hbm, ⟨39, _⟩ => ⟨S3072x128x32, .i32⟩
  | .hbm, ⟨40, _⟩ => ⟨S3072x128x32, .i32⟩
  | .hbm, ⟨41, _⟩ => ⟨S_, .i32⟩
  | .hbm, ⟨42, _⟩ => ⟨S3072x128x32, .i32⟩
  | .hbm, ⟨43, _⟩ => ⟨S3072x128x32, .i32⟩
  | .hbm, ⟨44, _⟩ => ⟨S3072x4096, .i32⟩
  | .hbm, ⟨45, _⟩ => ⟨S_, .i32⟩
  | .hbm, ⟨46, _⟩ => ⟨S3072x4096, .i32⟩
  | .hbm, ⟨47, _⟩ => ⟨S3072x4096, .i1⟩
  | .hbm, ⟨48, _⟩ => ⟨S_, .bf16⟩
  | .hbm, ⟨49, _⟩ => ⟨S3072x4096, .bf16⟩
  | .hbm, ⟨50, _⟩ => ⟨S3072x4096, .bf16⟩
  | .hbm, ⟨51, _⟩ => ⟨S320x4096, .f32⟩
  | .hbm, ⟨52, _⟩ => ⟨S320x4096, .f32⟩
  | .hbm, ⟨53, _⟩ => ⟨S320x4096, .f32⟩
  | .hbm, ⟨54, _⟩ => ⟨S_, .f32⟩
  | .hbm, ⟨55, _⟩ => ⟨S320x4096, .f32⟩
  | .hbm, ⟨56, _⟩ => ⟨S320x4096, .f32⟩
  | .hbm, ⟨57, _⟩ => ⟨S_, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .f32⟩
  | .hbm, ⟨62, _⟩ => ⟨S320x4096, .bf16⟩
  | .hbm, ⟨63, _⟩ => ⟨S_, .i32⟩
  | .hbm, ⟨64, _⟩ => ⟨S_, .i32⟩
  | .hbm, ⟨65, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_c_5 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Kernel5.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x8x128 : Shape := ⟨3, ![24, 8, 128]⟩
abbrev S320x256 : Shape := ⟨2, ![320, 256]⟩
abbrev S8x128 : Shape := ⟨2, ![8, 128]⟩
abbrev S1x8x128 : Shape := ⟨3, ![1, 8, 128]⟩
abbrev S1x128 : Shape := ⟨2, ![1, 128]⟩
abbrev S16x128 : Shape := ⟨2, ![16, 128]⟩
abbrev S256x128 : Shape := ⟨2, ![256, 128]⟩
abbrev S256x256 : Shape := ⟨2, ![256, 256]⟩

abbrev nBuf : Space → Nat
  | .hbm => 7
  | .vmem => 11
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S320x24576, .bf16⟩
  | .local _ .vmem, ⟨0, _⟩ => ⟨S320x3072, .bf16⟩
  | .local _ .vmem, ⟨1, _⟩ => ⟨S24x128x128, .i32⟩
  | .local _ .vmem, ⟨2, _⟩ => ⟨S24x128x128, .i32⟩
  | .local _ .vmem, ⟨3, _⟩ => ⟨S24x128x128, .i32⟩
  | .local _ .vmem, ⟨4, _⟩ => ⟨S24x128x128, .i32⟩
  | .local _ .vmem, ⟨5, _⟩ => ⟨S24x8x128, .i32⟩
  | .local _ .vmem, ⟨6, _⟩ => ⟨S24x8x128, .i32⟩
  | .local _ .vmem, ⟨7, _⟩ => ⟨S24x8x128, .i32⟩
  | .local _ .vmem, ⟨8, _⟩ => ⟨S24x8x128, .i32⟩
  | .local _ .vmem, ⟨9, _⟩ => ⟨S320x256, .bf16⟩
  | .local _ .vmem, ⟨10, _⟩ => ⟨S320x256, .bf16⟩
  | _, _ => ⟨S320x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c80_i32 : BitVec 32 := 80#32
  let v0 : BitVec 32 := Scalar.addi c80_i32 arg0
  let c0_i32 : BitVec 32 := 0#32
  let c0_i32_0 : BitVec 32 := 0#32
  ![c0_i32.toNat, v0.toNat]

abbrev stage0_0 : Fin 1 → Memref sig .tc .vmem S320x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S24x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S24x128x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S24x8x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S24x8x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S320x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S320x3072 : Shape := ⟨2, ![320, 3072]⟩
abbrev S24x2048x128 : Shape := ⟨3, ![24, 2048, 128]⟩
abbrev S24x128x128 : Shape := ⟨3, ![24, 128, 128]⟩
abbrev S320x24576 : Shape := ⟨2, ![320, 24576]⟩
abbrev S24x2048x128x2 : Shape := ⟨4, ![24, 2048, 128, 2]⟩
abbrev S24x128x2048x2 : Shape := ⟨4, ![24, 128, 2048, 2]⟩
abbrev S3072x4096 : Shape := ⟨2, ![3072, 4096]⟩
abbrev S24x16x2x4x128 : Shape := ⟨5, ![24, 16, 2, 4, 128]⟩
abbrev S24x128x16x4x2 : Shape := ⟨5, ![24, 128, 16, 4, 2]⟩
abbrev S3072x128 : Shape := ⟨2, ![3072, 128]⟩
abbrev S3072x128x1 : Shape := ⟨3, ![3072, 128, 1]⟩
abbrev S32 : Shape := ⟨1, ![32]⟩
abbrev S1x1x32 : Shape := ⟨3, ![1, 1, 32]⟩
abbrev S3072x128x32 : Shape := ⟨3, ![3072, 128, 32]⟩
abbrev S_ : Shape := ⟨0, ![]⟩
abbrev S320x4096 : Shape := ⟨2, ![320, 4096]⟩

abbrev nBuf : Space → Nat
  | .hbm => 66
  | .vmem => 0
  | .smem => 0
  | _ => 0

abbrev bufTy : (tb : Table) → Fin (tcTables nBuf tb) → BufTy
  | .hbm, ⟨0, _⟩ => ⟨S320x3072, .bf16⟩
  | .hbm, ⟨1, _⟩ => ⟨S24x2048x128, .i32⟩
  | .hbm, ⟨2, _⟩ => ⟨S24x2048x128, .i32⟩
  | .hbm, ⟨3, _⟩ => ⟨S24x128x128, .i32⟩
  | .hbm, ⟨4, _⟩ => ⟨S24x128x128, .i32⟩
  | .hbm, ⟨5, _⟩ => ⟨S320x24576, .bf16⟩
  | .hbm, ⟨6, _⟩ => ⟨S24x2048x128x2, .bf16⟩
  | .hbm, ⟨7, _⟩ => ⟨S24x128x2048x2, .bf16⟩
  | .hbm, ⟨8, _⟩ => ⟨S3072x4096, .bf16⟩
  | .hbm, ⟨9, _⟩ => ⟨S24x16x2x4x128, .i32⟩
  | .hbm, ⟨10, _⟩ => ⟨S24x128x16x4x2, .i32⟩
  | .hbm, ⟨11, _⟩ => ⟨S3072x128, .i32⟩
  | .hbm, ⟨12, _⟩ => ⟨S3072x128x1, .i32⟩
  | .hbm, ⟨13, _⟩ => ⟨S32, .i32⟩
  | .hbm, ⟨14, _⟩ => ⟨S1x1x32, .i32⟩
  | .hbm, ⟨15, _⟩ => ⟨S3072x128x32, .i32⟩
  | .hbm, ⟨16, _⟩ => ⟨S3072x128x32, .i32⟩
  | .hbm, ⟨17, _⟩ => ⟨S3072x128x32, .i32⟩
  | .hbm, ⟨18, _⟩ => ⟨S_, .i32⟩
  | .hbm, ⟨19, _⟩ => ⟨S3072x128x32, .i32⟩
  | .hbm, ⟨20, _⟩ => ⟨S3072x128x32, .i32⟩
  | .hbm, ⟨21, _⟩ => ⟨S3072x4096, .i32⟩
  | .hbm, ⟨22, _⟩ => ⟨S_, .i32⟩
  | .hbm, ⟨23, _⟩ => ⟨S3072x4096, .i32⟩
  | .hbm, ⟨24, _⟩ => ⟨S3072x4096, .i1⟩
  | .hbm, ⟨25, _⟩ => ⟨S_, .bf16⟩
  | .hbm, ⟨26, _⟩ => ⟨S3072x4096, .bf16⟩
  | .hbm, ⟨27, _⟩ => ⟨S3072x4096, .bf16⟩
  | .hbm, ⟨28, _⟩ => ⟨S320x4096, .f32⟩
  | .hbm, ⟨29, _⟩ => ⟨S24x2048x128x2, .bf16⟩
  | .hbm, ⟨30, _⟩ => ⟨S24x128x2048x2, .bf16⟩
  | .hbm, ⟨31, _⟩ => ⟨S3072x4096, .bf16⟩
  | .hbm, ⟨32, _⟩ => ⟨S24x16x2x4x128, .i32⟩
  | .hbm, ⟨33, _⟩ => ⟨S24x128x16x4x2, .i32⟩
  | .hbm, ⟨34, _⟩ => ⟨S3072x128, .i32⟩
  | .hbm, ⟨35, _⟩ => ⟨S3072x128x1, .i32⟩
  | .hbm, ⟨36, _⟩ => ⟨S32, .i32⟩
  | .hbm, ⟨37, _⟩ => ⟨S1x1x32, .i32⟩
  | .hbm, ⟨38, _⟩ => ⟨S3072x128x32, .i32⟩
  | .hbm, ⟨39, _⟩ => ⟨S3072x128x32, .i32⟩
  | .hbm, ⟨40, _⟩ => ⟨S3072x128x32, .i32⟩
  | .hbm, ⟨41, _⟩ => ⟨S_, .i32⟩
  | .hbm, ⟨42, _⟩ => ⟨S3072x128x32, .i32⟩
  | .hbm, ⟨43, _⟩ => ⟨S3072x128x32, .i32⟩
  | .hbm, ⟨44, _⟩ => ⟨S3072x4096, .i32⟩
  | .hbm, ⟨45, _⟩ => ⟨S_, .i32⟩
  | .hbm, ⟨46, _⟩ => ⟨S3072x4096, .i32⟩
  | .hbm, ⟨47, _⟩ => ⟨S3072x4096, .i1⟩
  | .hbm, ⟨48, _⟩ => ⟨S_, .bf16⟩
  | .hbm, ⟨49, _⟩ => ⟨S3072x4096, .bf16⟩
  | .hbm, ⟨50, _⟩ => ⟨S3072x4096, .bf16⟩
  | .hbm, ⟨51, _⟩ => ⟨S320x4096, .f32⟩
  | .hbm, ⟨52, _⟩ => ⟨S320x4096, .f32⟩
  | .hbm, ⟨53, _⟩ => ⟨S320x4096, .f32⟩
  | .hbm, ⟨54, _⟩ => ⟨S_, .f32⟩
  | .hbm, ⟨55, _⟩ => ⟨S320x4096, .f32⟩
  | .hbm, ⟨56, _⟩ => ⟨S320x4096, .f32⟩
  | .hbm, ⟨57, _⟩ => ⟨S_, .f32⟩
  | .hbm, ⟨58, _⟩ => ⟨S320x4096, .f32⟩
  | .hbm, ⟨59, _⟩ => ⟨S320x4096, .f32⟩
  | .hbm, ⟨60, _⟩ => ⟨S320x4096, .f32⟩
  | .hbm, ⟨61, _⟩ => ⟨S320x4096, .f32⟩
  | .hbm, ⟨62, _⟩ => ⟨S320x4096, .bf16⟩
  | .hbm, ⟨63, _⟩ => ⟨S_, .i32⟩
  | .hbm, ⟨64, _⟩ => ⟨S_, .i32⟩
  | .hbm, ⟨65, _⟩ => ⟨S320x24576, .bf16⟩
  | _, _ => ⟨S320x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_call0_v0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_2 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_call1_v0 : Ref sig .tc := ⟨.hbm, 49, rfl⟩
abbrev main_v36 : Ref sig .tc := ⟨.hbm, 50, rfl⟩
abbrev main_v37 : Ref sig .tc := ⟨.hbm, 51, rfl⟩
abbrev main_call2_v0 : Ref sig .tc := ⟨.hbm, 52, rfl⟩
abbrev main_call2_v1 : Ref sig .tc := ⟨.hbm, 53, rfl⟩
abbrev main_call2_cst : Ref sig .tc := ⟨.hbm, 54, rfl⟩
abbrev main_call2_v2 : Ref sig .tc := ⟨.hbm, 55, rfl⟩
abbrev main_call2_v3 : Ref sig .tc := ⟨.hbm, 56, rfl⟩
abbrev main_call2_cst_0 : Ref sig .tc := ⟨.hbm, 57, rfl⟩
abbrev main_call2_v4 : Ref sig .tc := ⟨.hbm, 58, rfl⟩
abbrev main_call2_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_4 : Ref sig .tc := ⟨.hbm, 63, rfl⟩
abbrev main_c_5 : Ref sig .tc := ⟨.hbm, 64, rfl⟩
abbrev main_v41 : Ref sig .tc := ⟨.hbm, 65, rfl⟩

abbrev nD : Nat := 1
abbrev τ : Topo := Topo.v7x

variable {F : FTy → Type} [FloatOps F]
-- ==== Proof.Block.lean ====
/-
  What one grid point of the feed-forward call computes, in one closed term: `Block.out`, a fold of twelve products
  over masked tiles, for the gate and for the up projection, and the gating of the two. `Block.out0` says that the
  generated closed form of the call's output block (`Gen.out0_5`) is that term.
-/
module

public import proofs.«01_k».proof.Proof.Gen.Kernel0Ideal.Frame

@[expose] public section

noncomputable section

namespace Cert.Block

open Cert.Kernel0Ideal Cert.Kernel0Ideal.Gen Idealize.ShloMosaic

variable {F : FTy → Type} [FloatOps F]

/-- One exchange of bit groups at distance `s`, chosen by `m`. -/
def swap (s m : BitVec 32) (x : IVec S8x128 32) : IVec S8x128 32 :=
  xori (xori x (andi (xori x (shrui x (broadcast S8x128 s))) (broadcast S8x128 m)))
    (shli (andi (xori x (shrui x (broadcast S8x128 s))) (broadcast S8x128 m)) (broadcast S8x128 s))

/-- The even bits of each word in its low half, the odd bits in its high half. -/
def unshuffle (x : IVec S8x128 32) : IVec S8x128 32 :=
  swap 8#32 65280#32 (swap 4#32 15728880#32 (swap 2#32 202116108#32 (swap 1#32 572662306#32 x)))

/-- Row `r` of a tile of words on all eight sublanes. -/
def spread (r : Nat) (h : S8x128.Slices ![r, 0] S1x128) (e : IVec S8x128 32) : IVec S8x128 32 :=
  broadcastTo S8x128 (shapeCast S1x128 (extractStridedSlice S1x128 ![r, 0] e h) shapeCasts_S1x128_S1x128) broadcasts_S1x128_S8x128

/-- On sublane `s`, the bits `s + o` and `16 + s + o` set. -/
def bits (o : BitVec 32) : IVec S8x128 32 :=
  shli (broadcast S8x128 65537#32) (addi (iota .tc S8x128 32 [0] iota_S8x128_d0_w32) (broadcast S8x128 o))

/-- Sixteen rows of weights: the halves of eight rows of words, zero where the mask's bit is clear. -/
def piece (o : BitVec 32) (eb : IVec S8x128 32) (w : Vec F S1x8x128 .i32) : FVec F S16x128 .bf16 :=
  select (cmpi .ne (bitcast S16x128 16 (andi eb (bits o)) bitcasts_S8x128_w32_S16x128_w16) (broadcast S16x128 0#16))
    (bitcastToFloat .bf16 (bitcast S16x128 16 (shapeCast S8x128 w shapeCasts_S1x8x128_S8x128) bitcasts_S8x128_w32_S16x128_w16))
    (broadcast S16x128 (Scalar.ofBits .bf16 0x0000#16))

theorem inb_w (i q : Nat) (hi : i < 24) (hq : q < 16) : ∀ a : Fin S24x128x128.rank, (![i, q * 8, 0] : Fin 3 → Nat) a + S1x8x128.size a ≤ S24x128x128.size a := by
  intro a; fin_cases a <;> simp [Shape.size] <;> omega

theorem inb_e (i : Nat) (hi : i < 24) : ∀ a : Fin S24x8x128.rank, (![i, 0, 0] : Fin 3 → Nat) a + S1x8x128.size a ≤ S24x8x128.size a := by
  intro a; fin_cases a <;> simp [Shape.size] <;> omega

theorem inb_x (k : Fin 12) : ∀ a : Fin S320x3072.rank, (![0, k.val * 256] : Fin 2 → Nat) a + S320x256.size a ≤ S320x3072.size a := by
  intro a; fin_cases a <;> simp [Shape.size] <;> omega

/-- The loads of the activations: 256 of their columns. -/
def loadX (x0 : Vec F S320x3072 .bf16) (k : Fin 12) : Vec F S320x256 .bf16 :=
  View.ld x0 (Rect.unit (s := S320x3072) ![0, k.val * 256] S320x256.size (inb_x k))

/-- The loads of the values: eight rows of words of one pair of row blocks. -/
def loadW (x1 : Vec F S24x128x128 .i32) (i : Fin 24) (q : Fin 16) : Vec F S1x8x128 .i32 :=
  View.ld x1 (Rect.unit (s := S24x128x128) ![i.val, q.val * 8, 0] S1x8x128.size (inb_w i.val q.val i.isLt q.isLt))

/-- The loads of the mask: its words for one pair of row blocks. -/
def loadE (x3 : Vec F S24x8x128 .i32) (i : Fin 24) : Vec F S1x8x128 .i32 :=
  View.ld x3 (Rect.unit (s := S24x8x128) ![i.val, 0, 0] S1x8x128.size (inb_e i.val i.isLt))

/-- The mask words of one pair of row blocks, unshuffled. -/
def mask (e : Vec F S1x8x128 .i32) : IVec S8x128 32 :=
  unshuffle (shapeCast S8x128 e shapeCasts_S1x8x128_S8x128)

theorem slices_row (r : Nat) (h : r < 8) : S8x128.Slices ![r, 0] S1x128 := by
  revert h; revert r; decide +kernel

/-- Sixteen rows of the transposed weights of one pair of row blocks. -/
def strip (w : Fin 16 → Vec F S1x8x128 .i32) (e : Vec F S1x8x128 .i32) (q : Fin 16) : FVec F S16x128 .bf16 :=
  piece (BitVec.ofNat 32 (8 * (q.val % 2))) (spread (q.val / 2 % 2 * 4 + q.val / 4) (slices_row _ (by omega)) (mask e)) (w q)

/-- The transposed weights of one pair of row blocks: 256 columns by 128 rows. -/
def tile (w : Fin 16 → Vec F S1x8x128 .i32) (e : Vec F S1x8x128 .i32) : FVec F S256x128 .bf16 :=
  concatenate S256x128 0
    [⟨S16x128, strip w e 0⟩,
     ⟨S16x128, strip w e 1⟩,
     ⟨S16x128, strip w e 2⟩,
     ⟨S16x128, strip w e 3⟩,
     ⟨S16x128, strip w e 4⟩,
     ⟨S16x128, strip w e 5⟩,
     ⟨S16x128, strip w e 6⟩,
     ⟨S16x128, strip w e 7⟩,
     ⟨S16x128, strip w e 8⟩,
     ⟨S16x128, strip w e 9⟩,
     ⟨S16x128, strip w e 10⟩,
     ⟨S16x128, strip w e 11⟩,
     ⟨S16x128, strip w e 12⟩,
     ⟨S16x128, strip w e 13⟩,
     ⟨S16x128, strip w e 14⟩,
     ⟨S16x128, strip w e 15⟩]
    concatenates_S16x128_S16x128_S16x128_S16x128_S16x128_S16x128_S16x128_S16x128_S16x128_S16x128_S16x128_S16x128_S16x128_S16x128_S16x128_S16x128_S256x128_d0

/-- Two tiles side by side: 256 columns by 256 rows. -/
def pair (w : Fin 24 → Fin 16 → Vec F S1x8x128 .i32) (e : Fin 24 → Vec F S1x8x128 .i32) (k : Fin 12) : FVec F S256x256 .bf16 :=
  concatenate S256x256 1
    [⟨S256x128, tile (w ⟨2 * k.val, by omega⟩) (e ⟨2 * k.val, by omega⟩)⟩, ⟨S256x128, tile (w ⟨2 * k.val + 1, by omega⟩) (e ⟨2 * k.val + 1, by omega⟩)⟩]
    concatenates_S256x128_S256x128_S256x256_d1

/-- One step of the accumulation: 256 rows of the weights. -/
def step (x : Fin 12 → Vec F S320x256 .bf16) (w : Fin 24 → Fin 16 → Vec F S1x8x128 .i32) (e : Fin 24 → Vec F S1x8x128 .i32)
    (a : FVec F S320x256 .f32) (k : Fin 12) : FVec F S320x256 .f32 :=
  addf a (matmul dot_S320x256_S256x256_S320x256_1_1_0_0_n_n none (x k) (pair w e k) (constant S320x256 .f32 0x00000000#32))

/-- The product with all 3072 rows, accumulated in twelve steps from zero. -/
def acc (x : Fin 12 → Vec F S320x256 .bf16) (w : Fin 24 → Fin 16 → Vec F S1x8x128 .i32) (e : Fin 24 → Vec F S1x8x128 .i32) : FVec F S320x256 .f32 :=
  List.foldl (step x w e) (broadcast S320x256 (Scalar.ofBits .f32 0x00000000#32)) [0, 1, 2, 3, 4, 5, 6, 7, 8, 9, 10, 11]

/-- The block of the output, from the loads: of the activations, of the two operands' values and of their masks. -/
def out (x : Fin 12 → Vec F S320x256 .bf16) (w w' : Fin 24 → Fin 16 → Vec F S1x8x128 .i32) (e e' : Fin 24 → Vec F S1x8x128 .i32) :
    FVec F S320x256 .bf16 :=
  truncf .bf16 (mulf (mulf (acc x w e) (logistic (acc x w e))) (acc x w' e')) bitsLt_bf16_f32

set_option maxRecDepth 65536 in
set_option maxHeartbeats 0 in
/-- The generated closed form is that term. -/
theorem out0 (x0 : Vec F S320x3072 .bf16) (x1 : Vec F S24x128x128 .i32) (x2 : Vec F S24x128x128 .i32) (x3 : Vec F S24x8x128 .i32)
    (x4 : Vec F S24x8x128 .i32) : out0_5 x0 x1 x2 x3 x4 = View.canon [⟨r0_420, out (loadX x0) (loadW x1) (loadW x2) (loadE x3) (loadE x4)⟩] := rfl

end Cert.Block

end
-- ==== Proof.Words.lean ====
/-
  Bits of words: which bit of the mask decides a half word, after the exchange of bit groups (`swapWord`,
  `unshuffleWord`) and the test under a two-bit constant.
-/
module

public import Mathlib.Data.Fintype.Basic
public import Mathlib.Tactic.IntervalCases

@[expose] public section

namespace Cert.Words

/-- Exchange the bits that `m` selects with the bits `s` above them. -/
def swapWord (s : Nat) (m x : BitVec 32) : BitVec 32 :=
  x ^^^ ((x ^^^ x >>> s) &&& m) ^^^ (((x ^^^ x >>> s) &&& m) <<< s)

/-- The even bits in the low half, the odd bits in the high half. -/
def unshuffleWord (x : BitVec 32) : BitVec 32 :=
  swapWord 8 65280#32 (swapWord 4 15728880#32 (swapWord 2 202116108#32 (swapWord 1 572662306#32 x)))

/-- Where bit `i` of `swapWord s m x` comes from. -/
def source (s : Nat) (m : BitVec 32) (i : Nat) : Nat :=
  if m.getLsbD i then i + s else if s ≤ i ∧ m.getLsbD (i - s) then i - s else i

/-- If no selected bit is the partner of a selected bit, each bit of the exchange is the bit at its source. -/
theorem getLsbD_swapWord (s : Nat) (m x : BitVec 32) (h : ∀ i, i < 32 → m.getLsbD i = true → s ≤ i → m.getLsbD (i - s) = false)
    (i : Nat) (hi : i < 32) : (swapWord s m x).getLsbD i = x.getLsbD (source s m i) := by
  simp only [swapWord, BitVec.getLsbD_xor, BitVec.getLsbD_and, BitVec.getLsbD_ushiftRight, BitVec.getLsbD_shiftLeft, source, hi, decide_true,
    Bool.true_and]
  have h' := h i hi
  rw [Nat.add_comm s i]
  by_cases hs : s ≤ i
  · have e : s + (i - s) = i := by omega
    have hs' : decide (i < s) = false := by simp; omega
    rw [hs', e]
    cases hm : m.getLsbD i
    · cases hm' : m.getLsbD (i - s) <;> simp [hs] <;> cases x.getLsbD i <;> simp
    · rw [h' hm hs]; simp
  · have hs' : decide (i < s) = true := by simp; omega
    rw [hs']
    cases hm : m.getLsbD i <;> simp [hs]

/-- Bit `k` of half `h` of the unshuffled word is bit `2 k + h` of the word. -/
theorem getLsbD_unshuffleWord (x : BitVec 32) (k h : Nat) (hk : k < 16) (hh : h < 2) :
    (unshuffleWord x).getLsbD (16 * h + k) = x.getLsbD (2 * k + h) := by
  have key : ∀ i : Fin 32, source 8 65280#32 i.val < 32 ∧ source 4 15728880#32 i.val < 32 ∧ source 2 202116108#32 i.val < 32
      ∧ source 1 572662306#32 (source 2 202116108#32 (source 4 15728880#32 (source 8 65280#32 i.val))) = 2 * (i.val % 16) + i.val / 16 := by
    decide +kernel
  have h8 := fun (i : Nat) (hi : i < 32) => (key ⟨i, hi⟩).1
  have h4 := fun (i : Nat) (hi : i < 32) => (key ⟨i, hi⟩).2.1
  have h2 := fun (i : Nat) (hi : i < 32) => (key ⟨i, hi⟩).2.2.1
  have hi : 16 * h + k < 32 := by omega
  have e := (key ⟨16 * h + k, hi⟩).2.2.2
  simp only at e
  unfold unshuffleWord
  rw [getLsbD_swapWord _ _ _ (by decide +kernel) _ hi, getLsbD_swapWord _ _ _ (by decide +kernel) _ (h8 _ hi),
    getLsbD_swapWord _ _ _ (by decide +kernel) _ (h4 _ (h8 _ hi)), getLsbD_swapWord _ _ _ (by decide +kernel) _ (h2 _ (h4 _ (h8 _ hi))), e]
  congr 1; omega

/-- Half `h` of a word under the constant with bits `s` and `16 + s` set is nonzero exactly if bit `16 h + s` is set. -/
theorem half_and_ne (x : BitVec 32) (s h : Nat) (hs : s < 16) (hh : h < 2) :
    (BitVec.extractLsb' (16 * h) 16 (x &&& (65537#32 <<< s)) ≠ 0#16) ↔ x.getLsbD (16 * h + s) = true := by
  have key : ∀ (s : Fin 16) (h : Fin 2) (j : Fin 16), (65537#32 <<< s.val).getLsbD (16 * h.val + j.val) = decide (j = s) := by decide +kernel
  have key' : ∀ j, j < 16 → (65537#32 <<< s).getLsbD (16 * h + j) = decide (j = s) := fun j hj => by
    rw [key ⟨s, hs⟩ ⟨h, hh⟩ ⟨j, hj⟩]; simp
  constructor
  · intro hne
    by_contra hx
    apply hne
    apply BitVec.eq_of_getLsbD_eq
    intro j hj
    simp only [BitVec.getLsbD_extractLsb', hj, decide_true, Bool.true_and, BitVec.getLsbD_and, key' j hj, BitVec.getLsbD_zero]
    by_cases e : j = s
    · subst e; simpa using hx
    · simp [e]
  · intro hx h0
    have := congrArg (fun v => v.getLsbD s) h0
    simp [BitVec.getLsbD_extractLsb', hs, BitVec.getLsbD_and, key' s hs, hx] at this

/-- The lowest bit of a word shifted right arithmetically by `t` is bit `t`. -/
theorem shift_and_ne (x : BitVec 32) (t : Nat) (ht : t < 32) : ((x.sshiftRight t) &&& 1#32 ≠ 0#32) ↔ x.getLsbD t = true := by
  have e : (x.sshiftRight t) &&& 1#32 = if x.getLsbD t then 1#32 else 0#32 := by
    apply BitVec.eq_of_getLsbD_eq
    intro j hj
    rw [BitVec.getLsbD_and, BitVec.getLsbD_sshiftRight]
    by_cases j0 : j = 0
    · subst j0; cases x.getLsbD t <;> simp [ht]
    · cases x.getLsbD t <;> simp [BitVec.getLsbD_one, j0]
  rw [e]; cases x.getLsbD t <;> simp

end Cert.Words

end
-- ==== Proof.Spec.lean ====
/-
  The mathematics both sides compute: a gated feed-forward over unpacked, masked weights, read at an index.
-/
module

public import proofs.«01_k».proof.Proof.Words
public import Idealize.ShloMosaic.Lib.Pointwise
public import Idealize.ShloMosaic.Lib.WordCmp

@[expose] public section

noncomputable section

namespace Cert.Words

open Idealize.ShloMosaic

/-- A selection on "not equal" of two words. -/
theorem select_ne {α : Type} {w : Nat} (x y : BitVec w) (a b : α) (c : Bool) (h : x ≠ y ↔ c = true) :
    Scalar.select (IntOp.cmpi CmpIPredicate.ne x y) a b = if c then a else b := by
  rw [WordCmp.cmpi_ne_eq, WordCmp.select_ofBool]
  by_cases hc : c = true <;> simp [hc, h]

/-- Half `n % 2` of the word `w`, as a weight, if bit `n % 32` of the mask word `e` is set, and zero otherwise. -/
def entry (w e : BitVec 32) (n : Nat) : EReal :=
  if e.getLsbD (n % 32) then Ideal.ofBits .bf16 (w.extractLsb' (16 * (n % 2)) 16) else 0

/-- The same by a shift of the mask word. -/
theorem select_shift (w e : BitVec 32) (n : Nat) :
    Scalar.select (IntOp.cmpi CmpIPredicate.ne (IntOp.andi (IntOp.shrsi ArithUnit.host e (BitVec.ofNat 32 (n % 32))) 1#32) 0#32)
      (Ideal.ofBits .bf16 (w.extractLsb' (n % 2 * 16) 16)) 0 = entry w e n := by
  have h : (BitVec.ofNat 32 (n % 32)).toNat = n % 32 := by simp; omega
  rw [select_ne _ _ _ _ (e.getLsbD (n % 32)) ?_, Nat.mul_comm (n % 2)]
  · rfl
  · simp only [IntOp.shrsi, IntOp.andi, h, BitVec.sshiftRight']
    rw [if_pos (by omega)]
    exact shift_and_ne e _ (by omega)

end Cert.Words

namespace Cert.Spec

open Idealize.ShloMosaic Cert.Words

/-- The weight in row `d` and column `n` of one sixth of the columns: values `v`, mask `k`. -/
def weight (v : (⟨3, ![24, 2048, 128]⟩ : Shape).Idx → BitVec 32) (k : (⟨3, ![24, 128, 128]⟩ : Shape).Idx → BitVec 32) (d : Fin 3072) (n : Fin 4096) : EReal :=
  entry (v (ix3 ⟨d.val / 128, by omega⟩ ⟨n.val / 2, by omega⟩ ⟨d.val % 128, by omega⟩))
    (k (ix3 ⟨d.val / 128, by omega⟩ ⟨n.val / 32 / 8 * 8 + n.val / 32 % 2 * 4 + n.val / 32 / 2 % 4, by omega⟩ ⟨d.val % 128, by omega⟩)) n.val

/-- The product of the activations with the weights, at row `b` and column `n`. -/
def product (x : (⟨2, ![320, 3072]⟩ : Shape).Idx → EReal) (v : (⟨3, ![24, 2048, 128]⟩ : Shape).Idx → BitVec 32)
    (k : (⟨3, ![24, 128, 128]⟩ : Shape).Idx → BitVec 32) (b : Fin 320) (n : Fin 4096) : EReal :=
  ∑ d : Fin 3072, x (ix2 b d) * weight v k d n

/-- The gated product. -/
def gated (x : (⟨2, ![320, 3072]⟩ : Shape).Idx → EReal) (v v' : (⟨3, ![24, 2048, 128]⟩ : Shape).Idx → BitVec 32)
    (k k' : (⟨3, ![24, 128, 128]⟩ : Shape).Idx → BitVec 32) (b : Fin 320) (n : Fin 4096) : EReal :=
  product x v k b n * Ideal.logistic (product x v k b n) * product x v' k' b n

end Cert.Spec

end
-- ==== Proof.Tile.lean ====
/-
  A tile of masked weights read at an index (`tile_apply`): the half word of the values it takes, kept if the
  mask's bit for it is set (`Words.entry`).
-/
module

public import proofs.«01_k».proof.Proof.Block
public import proofs.«01_k».proof.Proof.Spec
public import Idealize.ShloMosaic.Lib.BitcastPair

@[expose] public section

set_option maxRecDepth 16384

noncomputable section

namespace Cert.Block

open Cert.Kernel0Ideal Cert.Kernel0Ideal.Gen Idealize.ShloMosaic Cert.Words

/-- The exchange of bit groups, word by word. -/
theorem swap_apply (s : Nat) (m : BitVec 32) (hs : s < 32) (x : IVec S8x128 32) (r : Fin 8) (l : Fin 128) :
    swap (BitVec.ofNat 32 s) m x (ix2 r l) = swapWord s m (x (ix2 r l)) := by
  have e : (BitVec.ofNat 32 s).toNat = s := by simp; omega
  pointwise [swap]
  simp only [IntOp.xori, IntOp.andi, IntOp.shrui, IntOp.shli, e, hs, if_true, swapWord, BitVec.shiftLeft_eq', BitVec.ushiftRight_eq', BitVec.shiftLeft_eq, BitVec.ushiftRight_eq]

/-- One leading axis of extent one dropped. -/
theorem flat_apply (w : IVec S1x8x128 32) (r : Fin 8) (l : Fin 128) :
    shapeCast S8x128 w shapeCasts_S1x8x128_S8x128 (ix2 r l) = w (ix3 0 r l) := by
  pointwise

/-- A load of mask words at an index. -/
theorem loadE_apply (x3 : Vec Ideal S24x8x128 .i32) (i : Fin 24) (r : Fin 8) (l : Fin 128) :
    loadE (F := Ideal) x3 i (ix3 0 r l) = x3 (ix3 i r l) := by
  pointwise [loadE]

/-- A load of value words at an index. -/
theorem loadW_apply (x1 : Vec Ideal S24x128x128 .i32) (i : Fin 24) (q : Fin 16) (p : Fin 8) (l : Fin 128) :
    loadW (F := Ideal) x1 i q (ix3 0 p l) = x1 (ix3 i ⟨q.val * 8 + p.val, by omega⟩ l) := by
  pointwise [loadW]

/-- The unshuffled mask words, word by word. -/
theorem mask_apply (e : Vec Ideal S1x8x128 .i32) (r : Fin 8) (l : Fin 128) :
    mask (F := Ideal) e (ix2 r l) = unshuffleWord (e (ix3 0 r l)) := by
  unfold mask unshuffle
  rw [swap_apply 8 _ (by decide), swap_apply 4 _ (by decide), swap_apply 2 _ (by decide), swap_apply 1 _ (by decide)]
  rw [flat_apply]
  rfl

/-- One row of mask words on all sublanes. -/
theorem spread_apply (r : Nat) (hr : r < 8) (h : S8x128.Slices ![r, 0] S1x128) (e : IVec S8x128 32) (p : Fin 8) (l : Fin 128) :
    spread r h e (ix2 p l) = e (ix2 ⟨r, hr⟩ l) := by
  pointwise [spread]

/-- The two-bit constant on sublane `p`. -/
theorem bits_apply (o : Nat) (ho : o ≤ 8) (p : Fin 8) (l : Fin 128) :
    bits (BitVec.ofNat 32 o) (ix2 p l) = 65537#32 <<< (p.val + o) := by
  pointwise [bits]
  have e : (IntOp.addi (BitVec.ofNat 32 p.val) (BitVec.ofNat 32 o)).toNat = p.val + o := by
    simp [IntOp.addi]; omega
  simp only [IntOp.shli, e]
  rw [if_pos (by omega), BitVec.shiftLeft_eq', e]

/-- The words a reinterpretation of eight rows as sixteen rows of half words reads. -/
theorem halves_apply (x : IVec S8x128 32) (p : Fin 16) (l : Fin 128) :
    bitcast S16x128 16 x bitcasts_S8x128_w32_S16x128_w16 (ix2 p l)
      = (x (ix2 ⟨p.val / 2, by omega⟩ l)).extractLsb' (16 * (p.val % 2)) 16 := by
  rw [bitcast_32_16]
  congr 2
  funext a
  fin_cases a <;> rfl

/-- Sixteen rows of weights. -/
theorem piece_apply (o : Nat) (ho : o ≤ 8) (e : IVec S8x128 32) (w : Vec Ideal S1x8x128 .i32) (x v : BitVec 32) (p : Fin 16) (l : Fin 128)
    (he : e (ix2 ⟨p.val / 2, by omega⟩ l) = unshuffleWord x) (hw : w (ix3 0 ⟨p.val / 2, by omega⟩ l) = v) :
    piece (F := Ideal) (BitVec.ofNat 32 o) e w (ix2 p l)
      = if x.getLsbD (p.val + 2 * o) then Ideal.ofBits .bf16 (v.extractLsb' (16 * (p.val % 2)) 16) else 0 := by
  pointwise [piece]
  rw [halves_apply, halves_apply, andi_apply, bits_apply o ho, he]
  have hs : shapeCast S8x128 w shapeCasts_S1x8x128_S8x128 (ix2 ⟨p.val / 2, by omega⟩ l) = v := by
    rw [← hw]; exact flat_apply w _ _
  rw [hs]
  refine select_ne _ _ _ _ _ ?_
  show BitVec.extractLsb' _ _ (unshuffleWord x &&& _) ≠ _ ↔ _
  rw [half_and_ne _ _ _ (by omega) (by omega), getLsbD_unshuffleWord _ _ _ (by omega) (by omega)]
  have : 2 * (p.val / 2 + o) + p.val % 2 = p.val + 2 * o := by omega
  rw [this]

/-- The strips before strip `q` have `16 q` rows. -/
theorem strips_before : ∀ q : Fin 16,
    (((List.replicate 16 S16x128).take q.val).map fun s => if h : s.rank = S256x128.rank then s.size ((0 : Fin 2).cast h.symm) else 0).sum
      = 16 * q.val := by
  decide +kernel

/-- Row `16 q + p` of a tile is row `p` of its strip `q`. -/
theorem tile_strip (w : Fin 16 → Vec Ideal S1x8x128 .i32) (e : Vec Ideal S1x8x128 .i32) (q : Fin 16) (p : Fin 16) (l : Fin 128) :
    tile (F := Ideal) w e (ix2 ⟨16 * q.val + p.val, by omega⟩ l)
      = strip (F := Ideal) w e q (ix2 p l) := by
  unfold tile
  refine concatenate_apply_piece (t := S256x128) (0 : Fin 2) _ _ _ q.val ?_ S16x128 _ ?_ rfl (16 * q.val) ?_ (ix2 p l) ?_ ?_
  · exact q.isLt
  · fin_cases q <;> rfl
  · rw [List.map_take]
    exact strips_before q
  · intro b hb
    fin_cases b
    · exact absurd rfl hb
    · rfl
  · rfl

/-- A tile read at an index: half word `p % 2` of row `p / 2` of the values, kept if bit `p % 32` of the mask row for
    `p`'s 32 columns is set. -/
theorem tile_apply (x1 : Vec Ideal S24x128x128 .i32) (x3 : Vec Ideal S24x8x128 .i32) (i : Fin 24) (p : Fin 256) (l : Fin 128) :
    tile (F := Ideal) (loadW x1 i) (loadE x3 i) (ix2 p l)
      = entry (x1 (ix3 i ⟨p.val / 2, by omega⟩ l)) (x3 (ix3 i ⟨p.val / 32 % 2 * 4 + p.val / 64, by omega⟩ l)) p.val := by
  have hp := tile_strip (loadW x1 i) (loadE x3 i) ⟨p.val / 16, by omega⟩ ⟨p.val % 16, by omega⟩ l
  have ep : (⟨16 * (p.val / 16) + p.val % 16, by omega⟩ : Fin 256) = p := Fin.ext (by simp; omega)
  simp only [ep] at hp
  rw [hp]
  unfold strip
  rw [piece_apply _ (by omega) _ _ _ _ _ _ (((spread_apply _ (by omega) _ _ _ _).trans (mask_apply _ _ _)).trans (congrArg _ (loadE_apply _ _ _ _)))
    (loadW_apply _ _ _ _ _)]
  unfold entry
  have e1 : p.val % 16 + 2 * (8 * (p.val / 16 % 2)) = p.val % 32 := by omega
  have e2 : p.val % 16 % 2 = p.val % 2 := by omega
  have e3 : (⟨p.val / 16 * 8 + p.val % 16 / 2, by omega⟩ : Fin 128) = ⟨p.val / 2, by omega⟩ := Fin.ext (by simp; omega)
  have e4 : (⟨p.val / 16 / 2 % 2 * 4 + p.val / 16 / 4, by omega⟩ : Fin 8) = ⟨p.val / 32 % 2 * 4 + p.val / 64, by omega⟩ := Fin.ext (by simp; omega)
  simp only [e1, e2, e3, e4]

end Cert.Block

end
-- ==== Proof.Column.lean ====
/-
  One grid point's accumulation read at an index (`acc_apply`): a sum over all 3072 rows of the weights; and its
  output block (`out_apply`): the gating of two such sums.
-/
module

public import proofs.«01_k».proof.Proof.Tile

@[expose] public section

set_option maxRecDepth 16384

noncomputable section

namespace Cert.Block

open Cert.Kernel0Ideal Cert.Kernel0Ideal.Gen Idealize.ShloMosaic Cert.Words

/-- The weight in row `d` and column `n` of one grid point's 256 columns. -/
def weight (x1 : Vec Ideal S24x128x128 .i32) (x3 : Vec Ideal S24x8x128 .i32) (d : Fin 3072) (n : Fin 256) : EReal :=
  entry (x1 (ix3 ⟨d.val / 128, by omega⟩ ⟨n.val / 2, by omega⟩ ⟨d.val % 128, by omega⟩))
    (x3 (ix3 ⟨d.val / 128, by omega⟩ ⟨n.val / 32 % 2 * 4 + n.val / 64, by omega⟩ ⟨d.val % 128, by omega⟩)) n.val

/-- A tile holds the weights of its 128 rows. -/
theorem tile_weight (x1 : Vec Ideal S24x128x128 .i32) (x3 : Vec Ideal S24x8x128 .i32) (i : Fin 24) (n : Fin 256) (l : Fin 128)
    (d : Fin 3072) (hd : d.val = i.val * 128 + l.val) :
    tile (F := Ideal) (loadW x1 i) (loadE x3 i) (ix2 n l) = weight x1 x3 d n := by
  have e1 : (⟨d.val / 128, by omega⟩ : Fin 24) = i := Fin.ext (by simp; omega)
  have e2 : (⟨d.val % 128, by omega⟩ : Fin 128) = l := Fin.ext (by simp; omega)
  rw [tile_apply]
  unfold weight
  rw [e1, e2]

/-- One step adds the products with its 256 rows. -/
theorem step_apply (x0 : Vec Ideal S320x3072 .bf16) (x1 : Vec Ideal S24x128x128 .i32) (x3 : Vec Ideal S24x8x128 .i32) (a : FVec Ideal S320x256 .f32)
    (k : Fin 12) (b : Fin 320) (n : Fin 256) :
    step (F := Ideal) (loadX x0) (loadW x1) (loadE x3) a k (ix2 b n)
      = a (ix2 b n) + ∑ j : Fin 256, x0 (ix2 b ⟨k.val * 256 + j.val, by omega⟩) * weight x1 x3 ⟨k.val * 256 + j.val, by omega⟩ n := by
  pointwise [step, pair, loadX]
  rw [Fin.sum_univ_two_halves 128 128 rfl]
  congr 2
  · refine Finset.sum_congr rfl fun j _ => ?_
    rw [tile_weight x1 x3 _ n j ⟨k.val * 256 + j.val, by omega⟩ (by simp; omega)]
  · refine Finset.sum_congr rfl fun j _ => ?_
    rw [tile_weight x1 x3 _ n j ⟨k.val * 256 + (128 + j.val), by omega⟩ (by simp; omega)]

/-- A fold of steps adds the steps' sums. -/
theorem fold_apply (x0 : Vec Ideal S320x3072 .bf16) (x1 : Vec Ideal S24x128x128 .i32) (x3 : Vec Ideal S24x8x128 .i32) (b : Fin 320) (n : Fin 256)
    (ks : List (Fin 12)) : ∀ a : FVec Ideal S320x256 .f32,
    List.foldl (step (F := Ideal) (loadX x0) (loadW x1) (loadE x3)) a ks (ix2 b n)
      = a (ix2 b n) + (ks.map fun k => ∑ j : Fin 256, x0 (ix2 b ⟨k.val * 256 + j.val, by omega⟩) * weight x1 x3 ⟨k.val * 256 + j.val, by omega⟩ n).sum := by
  induction ks with
  | nil => intro a; simp
  | cons k ks ih =>
    intro a
    rw [List.foldl_cons, ih, step_apply, List.map_cons, List.sum_cons, add_assoc]

/-- The accumulation is the sum over all 3072 rows. -/
theorem acc_apply (x0 : Vec Ideal S320x3072 .bf16) (x1 : Vec Ideal S24x128x128 .i32) (x3 : Vec Ideal S24x8x128 .i32) (b : Fin 320) (n : Fin 256) :
    acc (F := Ideal) (loadX x0) (loadW x1) (loadE x3) (ix2 b n) = ∑ d : Fin 3072, x0 (ix2 b d) * weight x1 x3 d n := by
  have hk : ([0, 1, 2, 3, 4, 5, 6, 7, 8, 9, 10, 11] : List (Fin 12)) = List.finRange 12 := by decide
  have h0 : (broadcast S320x256 (Scalar.ofBits (F := Ideal) .f32 0x00000000#32)) (ix2 b n) = (0 : EReal) := by pointwise
  unfold acc
  rw [fold_apply, hk, h0, zero_add, ← List.ofFn_eq_map, List.sum_ofFn, Fin.sum_univ_tiles 12 256 rfl]

/-- The output block is the gating of two accumulations. -/
theorem out_apply (x0 : Vec Ideal S320x3072 .bf16) (x1 : Vec Ideal S24x128x128 .i32) (x2 : Vec Ideal S24x128x128 .i32) (x3 : Vec Ideal S24x8x128 .i32)
    (x4 : Vec Ideal S24x8x128 .i32) (b : Fin 320) (n : Fin 256) :
    out (F := Ideal) (loadX x0) (loadW x1) (loadW x2) (loadE x3) (loadE x4) (ix2 b n)
      = (∑ d : Fin 3072, x0 (ix2 b d) * weight x1 x3 d n) * Ideal.logistic (∑ d : Fin 3072, x0 (ix2 b d) * weight x1 x3 d n)
        * (∑ d : Fin 3072, x0 (ix2 b d) * weight x2 x4 d n) := by
  pointwise [out]
  rw [acc_apply, acc_apply]

/-- At grid point `T` the weights are the columns from `256 T` on of the call's weights. -/
theorem weight_block (x1 : Vec Ideal S24x128x128 .i32) (x3 : Vec Ideal S24x8x128 .i32) (v : (⟨3, ![24, 2048, 128]⟩ : Shape).Idx → BitVec 32)
    (k : (⟨3, ![24, 128, 128]⟩ : Shape).Idx → BitVec 32) (T : Nat) (hT : T < 16)
    (h1 : ∀ (i : Fin 24) (q l : Fin 128), x1 (ix3 i q l) = v (ix3 i ⟨T * 128 + q.val, by omega⟩ l))
    (h3 : ∀ (i : Fin 24) (q : Fin 8) (l : Fin 128), x3 (ix3 i q l) = k (ix3 i ⟨T * 8 + q.val, by omega⟩ l)) (d : Fin 3072) (n : Fin 256) :
    weight x1 x3 d n = Spec.weight v k d ⟨T * 256 + n.val, by omega⟩ := by
  unfold weight Spec.weight
  rw [h1, h3]
  have e1 : (⟨T * 128 + n.val / 2, by omega⟩ : Fin 2048) = ⟨(T * 256 + n.val) / 2, by omega⟩ := Fin.ext (by simp; omega)
  have e2 : (⟨T * 8 + (n.val / 32 % 2 * 4 + n.val / 64), by omega⟩ : Fin 128)
      = ⟨(T * 256 + n.val) / 32 / 8 * 8 + (T * 256 + n.val) / 32 % 2 * 4 + (T * 256 + n.val) / 32 / 2 % 4, by omega⟩ := Fin.ext (by simp; omega)
  simp only [e1, e2]
  unfold entry
  have e3 : (T * 256 + n.val) % 32 = n.val % 32 := by omega
  have e4 : (T * 256 + n.val) % 2 = n.val % 2 := by omega
  rw [e3, e4]

/-- At grid point `T` the output block is the columns from `256 T` on of the gated product. -/
theorem out_block (x0 : Vec Ideal S320x3072 .bf16) (x1 x2 : Vec Ideal S24x128x128 .i32) (x3 x4 : Vec Ideal S24x8x128 .i32)
    (x : (⟨2, ![320, 3072]⟩ : Shape).Idx → EReal) (v v' : (⟨3, ![24, 2048, 128]⟩ : Shape).Idx → BitVec 32)
    (k k' : (⟨3, ![24, 128, 128]⟩ : Shape).Idx → BitVec 32) (T : Nat) (hT : T < 16)
    (h0 : ∀ (b : Fin 320) (d : Fin 3072), x0 (ix2 b d) = x (ix2 b d))
    (h1 : ∀ (i : Fin 24) (q l : Fin 128), x1 (ix3 i q l) = v (ix3 i ⟨T * 128 + q.val, by omega⟩ l))
    (h2 : ∀ (i : Fin 24) (q l : Fin 128), x2 (ix3 i q l) = v' (ix3 i ⟨T * 128 + q.val, by omega⟩ l))
    (h3 : ∀ (i : Fin 24) (q : Fin 8) (l : Fin 128), x3 (ix3 i q l) = k (ix3 i ⟨T * 8 + q.val, by omega⟩ l))
    (h4 : ∀ (i : Fin 24) (q : Fin 8) (l : Fin 128), x4 (ix3 i q l) = k' (ix3 i ⟨T * 8 + q.val, by omega⟩ l))
    (b : Fin 320) (n : Fin 256) :
    out (F := Ideal) (loadX x0) (loadW x1) (loadW x2) (loadE x3) (loadE x4) (ix2 b n) = Spec.gated x v v' k k' b ⟨T * 256 + n.val, by omega⟩ := by
  rw [out_apply]
  unfold Spec.gated Spec.product
  simp only [h0, weight_block x1 x3 v k T hT h1 h3, weight_block x2 x4 v' k' T hT h2 h4]

end Cert.Block

end
-- ==== Proof.First.lean ====
/-
  The first call's result array on the columns it writes (`final`): the gated product.
-/
module

public import proofs.«01_k».proof.Proof.Gen.Kernel0Ideal.Value
public import proofs.«01_k».proof.Proof.Column
public import Idealize.ShloMosaic.Lib.Pipeline.ValueKit

@[expose] public section

set_option maxRecDepth 16384

noncomputable section

namespace Cert.First

open Cert.Kernel0Ideal Cert.Kernel0Ideal.Gen Cert.Kernel0Ideal.Value Idealize.ShloMosaic Idealize.ShloMosaic.TcCoe Idealize.SL.Sem

variable (m : (ℓ : Loc nD τ sig) → Buf (Elt Ideal) ℓ)

/-- The block indices of the windows. -/
theorem index0 : ∀ t : Fin cfg0.N, win0_0.index t = ![0, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, t.val] := (by decide +kernel : ∀ t : Fin grid0.N, _)

theorem lt16 (t : Fin cfg0.N) : t.val < 16 := t.isLt

/-- The activations are one block. -/
theorem iblk0 (c : Dev nD) (t : Fin cfg0.N) (b : Fin 320) (d : Fin 3072) :
    iblk m c 0 t (ix2 b d) = m ((c.tc : Thread nD τ).loc main_arg0) (ix2 b d) := by
  blk_simp [iblk]
  rw [V_main_arg0]
  congr 1
  funext a; apply Fin.ext
  fin_cases a <;> blk_simp [index0] <;> simp

/-- Grid point `t` reads word rows from `128 t` on of the gate. -/
theorem iblk1 (c : Dev nD) (t : Fin cfg0.N) (i : Fin 24) (q : Fin 128) (l : Fin 128) :
    iblk m c 1 t (ix3 i q l) = m ((c.tc : Thread nD τ).loc main_arg1) (ix3 i ⟨t.val * 128 + q.val, by have := lt16 t; omega⟩ l) := by
  blk_simp [iblk]
  rw [V_main_arg1]
  congr 1
  funext a; apply Fin.ext
  fin_cases a <;> blk_simp [index1] <;> simp

/-- Grid point `t` reads word rows from `128 t` on of the up projection. -/
theorem iblk2 (c : Dev nD) (t : Fin cfg0.N) (i : Fin 24) (q : Fin 128) (l : Fin 128) :
    iblk m c 2 t (ix3 i q l) = m ((c.tc : Thread nD τ).loc main_arg2) (ix3 i ⟨t.val * 128 + q.val, by have := lt16 t; omega⟩ l) := by
  blk_simp [iblk]
  rw [V_main_arg2]
  congr 1
  funext a; apply Fin.ext
  fin_cases a <;> blk_simp [index2] <;> simp

/-- Grid point `t` reads mask rows from `8 t` on of the gate. -/
theorem iblk3 (c : Dev nD) (t : Fin cfg0.N) (i : Fin 24) (q : Fin 8) (l : Fin 128) :
    iblk m c 3 t (ix3 i q l) = m ((c.tc : Thread nD τ).loc main_arg3) (ix3 i ⟨t.val * 8 + q.val, by have := lt16 t; omega⟩ l) := by
  blk_simp [iblk]
  rw [V_main_arg3]
  congr 1
  funext a; apply Fin.ext
  fin_cases a <;> blk_simp [index3] <;> simp

/-- Grid point `t` reads mask rows from `8 t` on of the up projection. -/
theorem iblk4 (c : Dev nD) (t : Fin cfg0.N) (i : Fin 24) (q : Fin 8) (l : Fin 128) :
    iblk m c 4 t (ix3 i q l) = m ((c.tc : Thread nD τ).loc main_arg4) (ix3 i ⟨t.val * 8 + q.val, by have := lt16 t; omega⟩ l) := by
  blk_simp [iblk]
  rw [V_main_arg4]
  congr 1
  funext a; apply Fin.ext
  fin_cases a <;> blk_simp [index4] <;> simp

/-- The gated product of the call's arguments, as an array. -/
def G (c : Dev nD) : S320x24576.Idx → EReal := fun i =>
  Spec.gated (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (i 0) ⟨(i 1).val % 4096, Nat.mod_lt _ (by decide)⟩

/-- The result array: the gated product on the columns written, the array's contents before elsewhere. -/
theorem final (c : Dev nD) : (dats m 0 c).arrAt 5 cfg0.N = fun i => if (i 1).val < 4096 then G m c i else V m c main_v0 i := by
  refine (dats m 0 c).arrAt_eq_of_coversWhere 5 (G m c) (fun β => β (1 : Fin 2) < 16) (by decide +kernel) (fun t hf y => ?_) (fun j => ?_)
  · blk_simp
    rw [after0_5, Block.out0]
    obtain ⟨b, n, rfl⟩ : ∃ (b : Fin 320) (n : Fin 256), y = ix2 b n := ⟨y 0, y 1, eq_ix2 y⟩
    refine (congrFun (View.canon_cons_unit_lit _ _ _ (by decide)) _).trans ?_
    refine (Block.out_block _ _ _ _ _ _ _ _ _ _ t.val (lt16 t) (iblk0 m c t) (iblk1 m c t) (iblk2 m c t) (iblk3 m c t) (iblk4 m c t) b n).trans ?_
    have ht := lt16 t
    unfold G
    congr 1
    · apply Fin.ext; blk_simp [index5]
    · apply Fin.ext; blk_simp [index5]; simp; omega
  · blk_simp [Pipeline.Window.cell_apply]
    omega

end Cert.First

end
-- ==== Proof.Half.lean ====
/-
  The reference's composed terms, with names for their parts: `dense` (the unpacked, masked weights) and `sixth`
  (the gated product with two of them, one sixth of the result's columns), each read at an index.
-/
module

public import proofs.«01_k».proof.Proof.Gen.Reference0Ideal.Run
public import proofs.«01_k».proof.Proof.Spec
public import Idealize.ShloMosaic.Lib.BitcastConvert

@[expose] public section

set_option maxRecDepth 16384

noncomputable section

namespace Cert.Half

open Cert.Reference0Ideal Cert.Reference0Ideal.Gen Idealize.ShloMosaic Cert.Words

/-- The weights of one projection: the values unpacked to half words, the bits of the mask tested, zero where clear. -/
def dense (v : Vec Ideal S24x2048x128 .i32) (k : Vec Ideal S24x128x128 .i32) : FVec Ideal S3072x4096 .bf16 :=
  select (cmpi .ne (shapeCast S3072x4096 (andi (Host.shrsi
      (broadcastInDim S3072x128x32 ![0, 1, 2] bcast_S3072x128x1_S3072x128x32_0_1_2 (broadcastInDim S3072x128x1 ![0, 1] bcast_S3072x128_S3072x128x1_0_1
        (shapeCast S3072x128 (transpose S24x128x16x4x2 [0, 4, 1, 3, 2] (shapeCast S24x16x2x4x128 k shapeCasts_S24x128x128_S24x16x2x4x128)
          transposes_S24x16x2x4x128_S24x128x16x4x2_0_4_1_3_2) shapeCasts_S24x128x16x4x2_S3072x128)))
      (broadcastInDim S3072x128x32 ![0, 1, 2] bcast_S1x1x32_S3072x128x32_0_1_2 (broadcastInDim S1x1x32 ![2] bcast_S32_S1x1x32_2 (iotaInDim S32 32 0))))
      (broadcastInDim S3072x128x32 ![] bcast_S_S3072x128x32 (constantI S_ 32 1#32))) shapeCasts_S3072x128x32_S3072x4096)
      (broadcastInDim S3072x4096 ![] bcast_S_S3072x4096 (constantI S_ 32 0#32)))
    (shapeCast S3072x4096 (transpose S24x128x2048x2 [0, 2, 1, 3]
      (bitcastToFloat (F := Ideal) .bf16 (Host.bitcastConvertNarrow S24x2048x128x2 16 v splits_S24x2048x128_w32_S24x2048x128x2_w16))
      transposes_S24x2048x128x2_S24x128x2048x2_0_2_1_3) shapeCasts_S24x128x2048x2_S3072x4096)
    (broadcastInDim S3072x4096 ![] bcast_S_S3072x4096 (constant S_ .bf16 0x0000#16))

/-- The product of the activations with one projection's weights. -/
def product (x : Vec Ideal S320x3072 .bf16) (v : Vec Ideal S24x2048x128 .i32) (k : Vec Ideal S24x128x128 .i32) : FVec Ideal S320x4096 .f32 :=
  Host.dotGeneral (φ₁ := .bf16) (φ₂ := .bf16) dot_S320x3072_S3072x4096_S320x4096_1_0_0_1_n_n none x (dense v k)

/-- One sixth of the result: the gated product. -/
def sixth (x : Vec Ideal S320x3072 .bf16) (v v' : Vec Ideal S24x2048x128 .i32) (k k' : Vec Ideal S24x128x128 .i32) : FVec Ideal S320x4096 .bf16 :=
  truncf .bf16 (mulf (mulf (product x v k) (Host.divf (broadcastInDim S320x4096 ![] bcast_S_S320x4096 (constant S_ .f32 0x3F800000#32))
      (addf (broadcastInDim S320x4096 ![] bcast_S_S320x4096 (constant S_ .f32 0x3F800000#32)) (Host.exp (Host.negf (product x v k))))))
    (product x v' k')) bitsLt_bf16_f32

/-- The weights at an index. -/
theorem dense_apply (v : Vec Ideal S24x2048x128 .i32) (k : Vec Ideal S24x128x128 .i32) (d : Fin 3072) (n : Fin 4096) :
    dense v k (ix2 d n) = Spec.weight v k d n := by
  pointwise [dense]
  have e : splits_S24x2048x128_w32_S24x2048x128x2_w16.drop
      (ix4 ⟨d.val / 128, by omega⟩ ⟨n.val / 2, by omega⟩ ⟨d.val % 128, by omega⟩ ⟨n.val % 2, by omega⟩)
      = ix3 ⟨d.val / 128, by omega⟩ ⟨n.val / 2, by omega⟩ ⟨d.val % 128, by omega⟩ := by
    funext a; fin_cases a <;> rfl
  rw [e]
  exact select_shift _ _ _

/-- The product at an index. -/
theorem product_apply (x : Vec Ideal S320x3072 .bf16) (v : Vec Ideal S24x2048x128 .i32) (k : Vec Ideal S24x128x128 .i32) (b : Fin 320) (n : Fin 4096) :
    product x v k (ix2 b n) = Spec.product x v k b n := by
  unfold product
  pointwise
  simp only [dense_apply]
  rfl

/-- One sixth of the result at an index. -/
theorem sixth_apply (x : Vec Ideal S320x3072 .bf16) (v v' : Vec Ideal S24x2048x128 .i32) (k k' : Vec Ideal S24x128x128 .i32) (b : Fin 320) (n : Fin 4096) :
    sixth x v v' k k' (ix2 b n) = Spec.gated x v v' k k' b n := by
  pointwise [sixth]
  rw [product_apply, product_apply]
  rfl

end Cert.Half

end
-- ==== Proof.FirstRef.lean ====
/-
  The reference of the first call, read at an index of the columns it is compared on.
-/
module

public import proofs.«01_k».proof.Proof.Half

@[expose] public section

set_option maxRecDepth 16384

noncomputable section

namespace Cert.FirstRef

open Cert.Reference0Ideal Cert.Reference0Ideal.Gen Cert.Reference0Ideal.Value Idealize.ShloMosaic

/-- The reference of the first call, on its first 4096 columns. -/
theorem res_apply (m : (ℓ : Loc nD τ sig) → Buf (Elt Ideal) ℓ) (c : Dev nD) (b : Fin 320) (n : Fin 24576) (hn : n.val < 4096) :
    res_out0 (F := Ideal) m c (ix2 b n)
      = Spec.gated (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) b ⟨n.val, hn⟩ := by
  rw [← Half.sixth_apply]
  have e : res_out0 (F := Ideal) m c = concatenate S320x24576 1 [⟨S320x4096, Half.sixth (m ((c.tc : Thread nD τ).loc main_arg0))
      (m ((c.tc : Thread nD τ).loc main_arg1)) (m ((c.tc : Thread nD τ).loc main_arg2)) (m ((c.tc : Thread nD τ).loc main_arg3)) (m ((c.tc : Thread nD τ).loc main_arg4))⟩,
      ⟨S320x20480, broadcastInDim S320x20480 ![] bcast_S_S320x20480 (constant S_ .bf16 0x0000#16)⟩] concatenates_S320x4096_S320x20480_S320x24576_d1 := rfl
  rw [e]
  generalize Half.sixth _ _ _ _ _ = f
  pointwise
  rw [dif_pos hn]

end Cert.FirstRef

end
-- ==== Proof.Later.lean ====
/-
  What the later calls share: the piece that a run of the body stores, the array that a later call leaves, and the
  reference's placing of a sixth of the columns.
-/
module

public import proofs.«01_k».proof.Proof.Column
public import proofs.«01_k».proof.Proof.Half
public import Idealize.ShloMosaic.Lib.Pipeline.ValueKit

@[expose] public section

set_option maxRecDepth 16384

noncomputable section

namespace Cert.Later

open Cert.Kernel0Ideal Cert.Kernel0Ideal.Gen Idealize.ShloMosaic Idealize.ShloMosaic.TcCoe Idealize.SL.Sem

section Run

variable {F : FTy → Type} [FloatOps F] {sg : RefSig}
  (arg1 : Memref sg .tc .vmem S320x3072 .bf16) (harg1 : arg1.IsWhole)
  (arg2 : Memref sg .tc .vmem S24x128x128 .i32) (harg2 : arg2.IsWhole) (arg3 : Memref sg .tc .vmem S24x128x128 .i32) (harg3 : arg3.IsWhole)
  (arg4 : Memref sg .tc .vmem S24x8x128 .i32) (harg4 : arg4.IsWhole) (arg5 : Memref sg .tc .vmem S24x8x128 .i32) (harg5 : arg5.IsWhole)
  (x0 : Vec F S320x3072 .bf16) (x1 : Vec F S24x128x128 .i32) (x2 : Vec F S24x128x128 .i32) (x3 : Vec F S24x8x128 .i32) (x4 : Vec F S24x8x128 .i32)

/-- The one piece that a run of the body stores: `Block.out` of what the loads read. -/
def pieces : List (View.Piece (Elt F) S320x256 .bf16) :=
  [⟨Rect.unit (s := S320x256) ![0, 0] S320x256.size inb_S320x256_S320x256_0_0, Block.out
    (fun k => View.readAt (Elt F) arg1.view (Rect.unit (s := S320x3072) ![0, k.val * 256] S320x256.size (Block.inb_x k)).toLoadRect (harg1.unread x0))
    (fun i q => View.readAt (Elt F) arg2.view (Rect.unit (s := S24x128x128) ![i.val, q.val * 8, 0] S1x8x128.size (Block.inb_w i.val q.val i.isLt q.isLt)).toLoadRect (harg2.unread x1))
    (fun i q => View.readAt (Elt F) arg3.view (Rect.unit (s := S24x128x128) ![i.val, q.val * 8, 0] S1x8x128.size (Block.inb_w i.val q.val i.isLt q.isLt)).toLoadRect (harg3.unread x2))
    (fun i => View.readAt (Elt F) arg4.view (Rect.unit (s := S24x8x128) ![i.val, 0, 0] S1x8x128.size (Block.inb_e i.val i.isLt)).toLoadRect (harg4.unread x3))
    (fun i => View.readAt (Elt F) arg5.view (Rect.unit (s := S24x8x128) ![i.val, 0, 0] S1x8x128.size (Block.inb_e i.val i.isLt)).toLoadRect (harg5.unread x4))⟩]

/-- What that piece leaves of the output block: `Block.out` of the loads of the input blocks. -/
theorem canon_pieces : View.canon (pieces arg1 harg1 arg2 harg2 arg3 harg3 arg4 harg4 arg5 harg5 x0 x1 x2 x3 x4)
    = Block.out (Block.loadX x0) (Block.loadW x1) (Block.loadW x2) (Block.loadE x3) (Block.loadE x4) := by
  refine (View.canon_cons_unit_lit _ _ _ (by decide)).trans ?_
  simp only [View.readAt_eq_ld, Memref.IsWhole.read_unread]
  rfl

end Run

/-- The gated product of a call's arguments, as an array of which each sixth of the columns is the same. -/
def gated (x : S320x3072.Idx → EReal) (v v' : S24x2048x128.Idx → BitVec 32) (k k' : S24x128x128.Idx → BitVec 32) : S320x24576.Idx → EReal :=
  fun i => Spec.gated x v v' k k' (i 0) ⟨(i 1).val % 4096, Nat.mod_lt _ (by decide)⟩

/-- The array that the call for sixth `q` of the columns leaves: the gated product there, `y` elsewhere. -/
def placed (q : Nat) (x : S320x3072.Idx → EReal) (v v' : S24x2048x128.Idx → BitVec 32) (k k' : S24x128x128.Idx → BitVec 32)
    (y : S320x24576.Idx → EReal) : S320x24576.Idx → EReal :=
  fun i => if (i 1).val / 4096 = q then gated x v v' k k' i else y i

/-- A sixth of the columns put into `y` from column `4096 q` on by an update at these starts. -/
theorem update_sixth (q : Nat) (hq : q < 6) (x : Vec Ideal S320x3072 .bf16) (v v' : Vec Ideal S24x2048x128 .i32) (k k' : Vec Ideal S24x128x128 .i32)
    (y : S320x24576.Idx → EReal) (start : Fin S320x24576.rank → Int) (h0 : start 0 = 0) (h1 : start 1 = (4096 * q : Nat))
    (h : S320x24576.Slices (fun _ => 0) Reference0Ideal.S320x4096) :
    Host.dynamicUpdateSlice y (Half.sixth x v v' k k') start h = placed q x v v' k k' y := by
  funext i
  obtain ⟨b, n, rfl⟩ : ∃ (b : Fin 320) (n : Fin 24576), i = ix2 b n := ⟨i 0, i 1, eq_ix2 i⟩
  have hn := n.isLt
  have c0 : Host.clampedStart S320x24576 Reference0Ideal.S320x4096 h.1 start 0 = 0 := Host.clampedStart_of_le _ _ _ 0 h0 (by show 0 + 320 ≤ 320; omega)
  have c1 : Host.clampedStart S320x24576 Reference0Ideal.S320x4096 h.1 start 1 = 4096 * q :=
    Host.clampedStart_of_le _ _ _ (4096 * q) h1 (by show 4096 * q + 4096 ≤ 24576; omega)
  rw [Host.dynamicUpdateSlice_apply]
  by_cases hc : n.val / 4096 = q
  · have hin : ∀ a : Fin S320x24576.rank, Host.clampedStart S320x24576 Reference0Ideal.S320x4096 h.1 start a ≤ ((ix2 b n : S320x24576.Idx) a).val
        ∧ ((ix2 b n : S320x24576.Idx) a).val < Host.clampedStart S320x24576 Reference0Ideal.S320x4096 h.1 start a + Reference0Ideal.S320x4096.size (a.cast h.1.symm) := by
      intro a
      fin_cases a
      · refine ⟨?_, ?_⟩
        · exact c0.trans_le (Nat.zero_le _)
        · show b.val < Host.clampedStart S320x24576 Reference0Ideal.S320x4096 h.1 start 0 + 320
          rw [c0]; omega
      · refine ⟨?_, ?_⟩
        · show Host.clampedStart S320x24576 Reference0Ideal.S320x4096 h.1 start 1 ≤ n.val
          rw [c1]; omega
        · show n.val < Host.clampedStart S320x24576 Reference0Ideal.S320x4096 h.1 start 1 + 4096
          rw [c1]; omega
    rw [dif_pos hin]
    have e : (Shape.Idx.norm fun a => ⟨((ix2 b n : S320x24576.Idx) (a.cast h.1)).val - Host.clampedStart S320x24576 Reference0Ideal.S320x4096 h.1 start (a.cast h.1), by
          have ha := hin (a.cast h.1)
          have e : (a.cast h.1).cast h.1.symm = a := rfl
          rw [e] at ha
          omega⟩ : Reference0Ideal.S320x4096.Idx) = ix2 b ⟨n.val % 4096, Nat.mod_lt _ (by decide)⟩ := by
      funext a
      fin_cases a <;> apply Fin.ext
      · show b.val - Host.clampedStart S320x24576 Reference0Ideal.S320x4096 h.1 start 0 = b.val
        rw [c0]; rfl
      · show n.val - Host.clampedStart S320x24576 Reference0Ideal.S320x4096 h.1 start 1 = n.val % 4096
        rw [c1]; omega
    refine (congrArg (Half.sixth x v v' k k') e).trans ((Half.sixth_apply x v v' k k' b _).trans ?_)
    exact (if_pos hc).symm
  · rw [dif_neg]
    · exact (if_neg hc).symm
    · intro hin
      have h1 : Host.clampedStart S320x24576 Reference0Ideal.S320x4096 h.1 start 1 ≤ n.val
          ∧ n.val < Host.clampedStart S320x24576 Reference0Ideal.S320x4096 h.1 start 1 + 4096 := hin 1
      rw [c1] at h1
      omega

end Cert.Later

end
-- ==== Proof.Second.lean ====
/-
  The second call's result array (`final`): the gated product on the columns it writes, the array handed to it elsewhere.
-/
module

public import proofs.«01_k».proof.Proof.Gen.Kernel1Ideal.Value
public import proofs.«01_k».proof.Proof.Later

@[expose] public section

set_option maxRecDepth 16384

noncomputable section

namespace Cert.Second

open Cert.Kernel1Ideal Cert.Kernel1Ideal.Gen Cert.Kernel1Ideal.Value Idealize.ShloMosaic Idealize.ShloMosaic.TcCoe Idealize.SL.Sem

set_option maxRecDepth 65536 in
set_option maxHeartbeats 0 in
/-- What a grid point leaves of the output block: `Block.out` of the loads of the input blocks. -/
theorem block {F : FTy → Type} [FloatOps F] (m : (ℓ : Loc nD τ sig) → Buf (Elt F) ℓ) (c : Dev nD) (t : Fin cfg0.N) :
    outsAt0 m c t = Block.out (Block.loadX (iblk m c 0 t)) (Block.loadW (iblk m c 1 t)) (Block.loadW (iblk m c 2 t))
      (Block.loadE (iblk m c 3 t)) (Block.loadE (iblk m c 4 t)) := by
  unfold outsAt0 out0_A_5
  exact (View.read_writes_junk_eq_canon _ _).trans (Later.canon_pieces (ms0_0 t) (hs0_0 t) (ms0_1 t) (hs0_1 t) (ms0_2 t) (hs0_2 t)
    (ms0_3 t) (hs0_3 t) (ms0_4 t) (hs0_4 t) _ _ _ _ _)

variable (m : (ℓ : Loc nD τ sig) → Buf (Elt Ideal) ℓ)

/-- The block indices of the windows. -/
theorem index0 : ∀ t : Fin cfg0.N, win0_0.index t = ![0, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, t.val, 0] := (by decide +kernel : ∀ t : Fin grid0.N, _)
theorem index3 : ∀ t : Fin cfg0.N, win0_3.index t = ![0, t.val, 0] := (by decide +kernel : ∀ t : Fin grid0.N, _)
theorem index4 : ∀ t : Fin cfg0.N, win0_4.index t = ![0, t.val, 0] := (by decide +kernel : ∀ t : Fin grid0.N, _)
theorem index5 : ∀ t : Fin cfg0.N, win0_5.index t = ![0, 16 + t.val] := (by decide +kernel : ∀ t : Fin grid0.N, _)

theorem lt16 (t : Fin cfg0.N) : t.val < 16 := t.isLt

/-- The activations are one block. -/
theorem iblk0 (c : Dev nD) (t : Fin cfg0.N) (b : Fin 320) (d : Fin 3072) :
    iblk m c 0 t (ix2 b d) = m ((c.tc : Thread nD τ).loc main_arg0) (ix2 b d) := by
  blk_simp [iblk]
  rw [V_main_arg0]
  congr 1
  funext a; apply Fin.ext
  fin_cases a <;> blk_simp [index0] <;> simp

/-- Grid point `t` reads word rows from `128 t` on of the gate. -/
theorem iblk1 (c : Dev nD) (t : Fin cfg0.N) (i : Fin 24) (q : Fin 128) (l : Fin 128) :
    iblk m c 1 t (ix3 i q l) = m ((c.tc : Thread nD τ).loc main_arg1) (ix3 i ⟨t.val * 128 + q.val, by have := lt16 t; omega⟩ l) := by
  blk_simp [iblk]
  rw [V_main_arg1]
  congr 1
  funext a; apply Fin.ext
  fin_cases a <;> blk_simp [index1] <;> simp

/-- Grid point `t` reads word rows from `128 t` on of the up projection. -/
theorem iblk2 (c : Dev nD) (t : Fin cfg0.N) (i : Fin 24) (q : Fin 128) (l : Fin 128) :
    iblk m c 2 t (ix3 i q l) = m ((c.tc : Thread nD τ).loc main_arg2) (ix3 i ⟨t.val * 128 + q.val, by have := lt16 t; omega⟩ l) := by
  blk_simp [iblk]
  rw [V_main_arg2]
  congr 1
  funext a; apply Fin.ext
  fin_cases a <;> blk_simp [index2] <;> simp

/-- Grid point `t` reads mask rows from `8 t` on of the gate. -/
theorem iblk3 (c : Dev nD) (t : Fin cfg0.N) (i : Fin 24) (q : Fin 8) (l : Fin 128) :
    iblk m c 3 t (ix3 i q l) = m ((c.tc : Thread nD τ).loc main_arg3) (ix3 i ⟨t.val * 8 + q.val, by have := lt16 t; omega⟩ l) := by
  blk_simp [iblk]
  rw [V_main_arg3]
  congr 1
  funext a; apply Fin.ext
  fin_cases a <;> blk_simp [index3] <;> simp

/-- Grid point `t` reads mask rows from `8 t` on of the up projection. -/
theorem iblk4 (c : Dev nD) (t : Fin cfg0.N) (i : Fin 24) (q : Fin 8) (l : Fin 128) :
    iblk m c 4 t (ix3 i q l) = m ((c.tc : Thread nD τ).loc main_arg4) (ix3 i ⟨t.val * 8 + q.val, by have := lt16 t; omega⟩ l) := by
  blk_simp [iblk]
  rw [V_main_arg4]
  congr 1
  funext a; apply Fin.ext
  fin_cases a <;> blk_simp [index4] <;> simp

/-- The result array: the gated product on the columns written, the array handed to the call elsewhere. -/
theorem final (c : Dev nD) : (dats m 0 c).arrAt 5 cfg0.N
    = Later.placed 1 (m (c.tc.loc main_arg0)) (m (c.tc.loc main_arg1)) (m (c.tc.loc main_arg2)) (m (c.tc.loc main_arg3)) (m (c.tc.loc main_arg4))
        (m (c.tc.loc main_arg5)) := by
  refine (dats m 0 c).arrAt_eq_of_coversWhere 5 (Later.gated (m (c.tc.loc main_arg0)) (m (c.tc.loc main_arg1)) (m (c.tc.loc main_arg2))
    (m (c.tc.loc main_arg3)) (m (c.tc.loc main_arg4))) (fun β => 16 ≤ β (1 : Fin 2) ∧ β (1 : Fin 2) < 32) (by decide +kernel) (fun t hf y => ?_) (fun j => ?_)
  · blk_simp
    rw [after0_5, block]
    obtain ⟨b, n, rfl⟩ : ∃ (b : Fin 320) (n : Fin 256), y = ix2 b n := ⟨y 0, y 1, eq_ix2 y⟩
    refine (Block.out_block _ _ _ _ _ _ _ _ _ _ t.val (lt16 t) (iblk0 m c t) (iblk1 m c t) (iblk2 m c t) (iblk3 m c t) (iblk4 m c t) b n).trans ?_
    have ht := lt16 t
    unfold Later.gated
    congr 1
    · apply Fin.ext; blk_simp [index5]
    · apply Fin.ext; blk_simp [index5]; simp; omega
  · blk_simp [Pipeline.Window.cell_apply]
    omega

end Cert.Second

end
-- ==== Proof.Third.lean ====
/-
  The third call's result array (`final`): the gated product on the columns it writes, the array handed to it elsewhere.
-/
module

public import proofs.«01_k».proof.Proof.Gen.Kernel2Ideal.Value
public import proofs.«01_k».proof.Proof.Second

@[expose] public section

set_option maxRecDepth 16384

noncomputable section

namespace Cert.Third

open Cert.Kernel2Ideal Cert.Kernel2Ideal.Gen Cert.Kernel2Ideal.Value Idealize.ShloMosaic Idealize.ShloMosaic.TcCoe Idealize.SL.Sem

set_option maxRecDepth 65536 in
set_option maxHeartbeats 0 in
/-- What a grid point leaves of the output block: `Block.out` of the loads of the input blocks. -/
theorem block {F : FTy → Type} [FloatOps F] (m : (ℓ : Loc nD τ sig) → Buf (Elt F) ℓ) (c : Dev nD) (t : Fin cfg0.N) :
    outsAt0 m c t = Block.out (Block.loadX (iblk m c 0 t)) (Block.loadW (iblk m c 1 t)) (Block.loadW (iblk m c 2 t))
      (Block.loadE (iblk m c 3 t)) (Block.loadE (iblk m c 4 t)) := by
  unfold outsAt0 out0_A_5
  exact (View.read_writes_junk_eq_canon _ _).trans (Later.canon_pieces (ms0_0 t) (hs0_0 t) (ms0_1 t) (hs0_1 t) (ms0_2 t) (hs0_2 t)
    (ms0_3 t) (hs0_3 t) (ms0_4 t) (hs0_4 t) _ _ _ _ _)

variable (m : (ℓ : Loc nD τ sig) → Buf (Elt Ideal) ℓ)

/-- The block index of the output window. -/
theorem index5 : ∀ t : Fin cfg0.N, win0_5.index t = ![0, 32 + t.val] := (by decide +kernel : ∀ t : Fin grid0.N, _)

/-- The result array: the gated product on the columns written, the array handed to the call elsewhere. -/
theorem final (c : Dev nD) : (dats m 0 c).arrAt 5 cfg0.N
    = Later.placed 2 (m (c.tc.loc main_arg0)) (m (c.tc.loc main_arg1)) (m (c.tc.loc main_arg2)) (m (c.tc.loc main_arg3)) (m (c.tc.loc main_arg4))
        (m (c.tc.loc main_arg5)) := by
  refine (dats m 0 c).arrAt_eq_of_coversWhere 5 (Later.gated (m (c.tc.loc main_arg0)) (m (c.tc.loc main_arg1)) (m (c.tc.loc main_arg2))
    (m (c.tc.loc main_arg3)) (m (c.tc.loc main_arg4))) (fun β => 32 ≤ β (1 : Fin 2) ∧ β (1 : Fin 2) < 48) (by decide +kernel) (fun t hf y => ?_) (fun j => ?_)
  · blk_simp
    rw [after0_5, block]
    obtain ⟨b, n, rfl⟩ : ∃ (b : Fin 320) (n : Fin 256), y = ix2 b n := ⟨y 0, y 1, eq_ix2 y⟩
    refine (Block.out_block _ _ _ _ _ _ _ _ _ _ t.val (Second.lt16 t) (Second.iblk0 m c t) (Second.iblk1 m c t) (Second.iblk2 m c t) (Second.iblk3 m c t) (Second.iblk4 m c t) b n).trans ?_
    have ht := Second.lt16 t
    unfold Later.gated
    congr 1
    · apply Fin.ext; blk_simp [index5]
    · apply Fin.ext; blk_simp [index5]; simp; omega
  · blk_simp [Pipeline.Window.cell_apply]
    omega

end Cert.Third

end
-- ==== Proof.Fourth.lean ====
/-
  The fourth call's result array (`final`): the gated product on the columns it writes, the array handed to it elsewhere.
-/
module

public import proofs.«01_k».proof.Proof.Gen.Kernel3Ideal.Value
public import proofs.«01_k».proof.Proof.Second

@[expose] public section

set_option maxRecDepth 16384

noncomputable section

namespace Cert.Fourth

open Cert.Kernel3Ideal Cert.Kernel3Ideal.Gen Cert.Kernel3Ideal.Value Idealize.ShloMosaic Idealize.ShloMosaic.TcCoe Idealize.SL.Sem

set_option maxRecDepth 65536 in
set_option maxHeartbeats 0 in
/-- What a grid point leaves of the output block: `Block.out` of the loads of the input blocks. -/
theorem block {F : FTy → Type} [FloatOps F] (m : (ℓ : Loc nD τ sig) → Buf (Elt F) ℓ) (c : Dev nD) (t : Fin cfg0.N) :
    outsAt0 m c t = Block.out (Block.loadX (iblk m c 0 t)) (Block.loadW (iblk m c 1 t)) (Block.loadW (iblk m c 2 t))
      (Block.loadE (iblk m c 3 t)) (Block.loadE (iblk m c 4 t)) := by
  unfold outsAt0 out0_A_5
  exact (View.read_writes_junk_eq_canon _ _).trans (Later.canon_pieces (ms0_0 t) (hs0_0 t) (ms0_1 t) (hs0_1 t) (ms0_2 t) (hs0_2 t)
    (ms0_3 t) (hs0_3 t) (ms0_4 t) (hs0_4 t) _ _ _ _ _)

variable (m : (ℓ : Loc nD τ sig) → Buf (Elt Ideal) ℓ)

/-- The block index of the output window. -/
theorem index5 : ∀ t : Fin cfg0.N, win0_5.index t = ![0, 48 + t.val] := (by decide +kernel : ∀ t : Fin grid0.N, _)

/-- The result array: the gated product on the columns written, the array handed to the call elsewhere. -/
theorem final (c : Dev nD) : (dats m 0 c).arrAt 5 cfg0.N
    = Later.placed 3 (m (c.tc.loc main_arg0)) (m (c.tc.loc main_arg1)) (m (c.tc.loc main_arg2)) (m (c.tc.loc main_arg3)) (m (c.tc.loc main_arg4))
        (m (c.tc.loc main_arg5)) := by
  refine (dats m 0 c).arrAt_eq_of_coversWhere 5 (Later.gated (m (c.tc.loc main_arg0)) (m (c.tc.loc main_arg1)) (m (c.tc.loc main_arg2))
    (m (c.tc.loc main_arg3)) (m (c.tc.loc main_arg4))) (fun β => 48 ≤ β (1 : Fin 2) ∧ β (1 : Fin 2) < 64) (by decide +kernel) (fun t hf y => ?_) (fun j => ?_)
  · blk_simp
    rw [after0_5, block]
    obtain ⟨b, n, rfl⟩ : ∃ (b : Fin 320) (n : Fin 256), y = ix2 b n := ⟨y 0, y 1, eq_ix2 y⟩
    refine (Block.out_block _ _ _ _ _ _ _ _ _ _ t.val (Second.lt16 t) (Second.iblk0 m c t) (Second.iblk1 m c t) (Second.iblk2 m c t) (Second.iblk3 m c t) (Second.iblk4 m c t) b n).trans ?_
    have ht := Second.lt16 t
    unfold Later.gated
    congr 1
    · apply Fin.ext; blk_simp [index5]
    · apply Fin.ext; blk_simp [index5]; simp; omega
  · blk_simp [Pipeline.Window.cell_apply]
    omega

end Cert.Fourth

end
-- ==== Proof.Fifth.lean ====
/-
  The fifth call's result array (`final`): the gated product on the columns it writes, the array handed to it elsewhere.
-/
module

public import proofs.«01_k».proof.Proof.Gen.Kernel4Ideal.Value
public import proofs.«01_k».proof.Proof.Second

@[expose] public section

set_option maxRecDepth 16384

noncomputable section

namespace Cert.Fifth

open Cert.Kernel4Ideal Cert.Kernel4Ideal.Gen Cert.Kernel4Ideal.Value Idealize.ShloMosaic Idealize.ShloMosaic.TcCoe Idealize.SL.Sem

set_option maxRecDepth 65536 in
set_option maxHeartbeats 0 in
/-- What a grid point leaves of the output block: `Block.out` of the loads of the input blocks. -/
theorem block {F : FTy → Type} [FloatOps F] (m : (ℓ : Loc nD τ sig) → Buf (Elt F) ℓ) (c : Dev nD) (t : Fin cfg0.N) :
    outsAt0 m c t = Block.out (Block.loadX (iblk m c 0 t)) (Block.loadW (iblk m c 1 t)) (Block.loadW (iblk m c 2 t))
      (Block.loadE (iblk m c 3 t)) (Block.loadE (iblk m c 4 t)) := by
  unfold outsAt0 out0_A_5
  exact (View.read_writes_junk_eq_canon _ _).trans (Later.canon_pieces (ms0_0 t) (hs0_0 t) (ms0_1 t) (hs0_1 t) (ms0_2 t) (hs0_2 t)
    (ms0_3 t) (hs0_3 t) (ms0_4 t) (hs0_4 t) _ _ _ _ _)

variable (m : (ℓ : Loc nD τ sig) → Buf (Elt Ideal) ℓ)

/-- The block index of the output window. -/
theorem index5 : ∀ t : Fin cfg0.N, win0_5.index t = ![0, 64 + t.val] := (by decide +kernel : ∀ t : Fin grid0.N, _)

/-- The result array: the gated product on the columns written, the array handed to the call elsewhere. -/
theorem final (c : Dev nD) : (dats m 0 c).arrAt 5 cfg0.N
    = Later.placed 4 (m (c.tc.loc main_arg0)) (m (c.tc.loc main_arg1)) (m (c.tc.loc main_arg2)) (m (c.tc.loc main_arg3)) (m (c.tc.loc main_arg4))
        (m (c.tc.loc main_arg5)) := by
  refine (dats m 0 c).arrAt_eq_of_coversWhere 5 (Later.gated (m (c.tc.loc main_arg0)) (m (c.tc.loc main_arg1)) (m (c.tc.loc main_arg2))
    (m (c.tc.loc main_arg3)) (m (c.tc.loc main_arg4))) (fun β => 64 ≤ β (1 : Fin 2) ∧ β (1 : Fin 2) < 80) (by decide +kernel) (fun t hf y => ?_) (fun j => ?_)
  · blk_simp
    rw [after0_5, block]
    obtain ⟨b, n, rfl⟩ : ∃ (b : Fin 320) (n : Fin 256), y = ix2 b n := ⟨y 0, y 1, eq_ix2 y⟩
    refine (Block.out_block _ _ _ _ _ _ _ _ _ _ t.val (Second.lt16 t) (Second.iblk0 m c t) (Second.iblk1 m c t) (Second.iblk2 m c t) (Second.iblk3 m c t) (Second.iblk4 m c t) b n).trans ?_
    have ht := Second.lt16 t
    unfold Later.gated
    congr 1
    · apply Fin.ext; blk_simp [index5]
    · apply Fin.ext; blk_simp [index5]; simp; omega
  · blk_simp [Pipeline.Window.cell_apply]
    omega

end Cert.Fifth

end
-- ==== Proof.Sixth.lean ====
/-
  The sixth call's result array (`final`): the gated product on the columns it writes, the array handed to it elsewhere.
-/
module

public import proofs.«01_k».proof.Proof.Gen.Kernel5Ideal.Value
public import proofs.«01_k».proof.Proof.Second

@[expose] public section

set_option maxRecDepth 16384

noncomputable section

namespace Cert.Sixth

open Cert.Kernel5Ideal Cert.Kernel5Ideal.Gen Cert.Kernel5Ideal.Value Idealize.ShloMosaic Idealize.ShloMosaic.TcCoe Idealize.SL.Sem

set_option maxRecDepth 65536 in
set_option maxHeartbeats 0 in
/-- What a grid point leaves of the output block: `Block.out` of the loads of the input blocks. -/
theorem block {F : FTy → Type} [FloatOps F] (m : (ℓ : Loc nD τ sig) → Buf (Elt F) ℓ) (c : Dev nD) (t : Fin cfg0.N) :
    outsAt0 m c t = Block.out (Block.loadX (iblk m c 0 t)) (Block.loadW (iblk m c 1 t)) (Block.loadW (iblk m c 2 t))
      (Block.loadE (iblk m c 3 t)) (Block.loadE (iblk m c 4 t)) := by
  unfold outsAt0 out0_A_5
  exact (View.read_writes_junk_eq_canon _ _).trans (Later.canon_pieces (ms0_0 t) (hs0_0 t) (ms0_1 t) (hs0_1 t) (ms0_2 t) (hs0_2 t)
    (ms0_3 t) (hs0_3 t) (ms0_4 t) (hs0_4 t) _ _ _ _ _)

variable (m : (ℓ : Loc nD τ sig) → Buf (Elt Ideal) ℓ)

/-- The block index of the output window. -/
theorem index5 : ∀ t : Fin cfg0.N, win0_5.index t = ![0, 80 + t.val] := (by decide +kernel : ∀ t : Fin grid0.N, _)

/-- The result array: the gated product on the columns written, the array handed to the call elsewhere. -/
theorem final (c : Dev nD) : (dats m 0 c).arrAt 5 cfg0.N
    = Later.placed 5 (m (c.tc.loc main_arg0)) (m (c.tc.loc main_arg1)) (m (c.tc.loc main_arg2)) (m (c.tc.loc main_arg3)) (m (c.tc.loc main_arg4))
        (m (c.tc.loc main_arg5)) := by
  refine (dats m 0 c).arrAt_eq_of_coversWhere 5 (Later.gated (m (c.tc.loc main_arg0)) (m (c.tc.loc main_arg1)) (m (c.tc.loc main_arg2))
    (m (c.tc.loc main_arg3)) (m (c.tc.loc main_arg4))) (fun β => 80 ≤ β (1 : Fin 2) ∧ β (1 : Fin 2) < 96) (by decide +kernel) (fun t hf y => ?_) (fun j => ?_)
  · blk_simp
    rw [after0_5, block]
    obtain ⟨b, n, rfl⟩ : ∃ (b : Fin 320) (n : Fin 256), y = ix2 b n := ⟨y 0, y 1, eq_ix2 y⟩
    refine (Block.out_block _ _ _ _ _ _ _ _ _ _ t.val (Second.lt16 t) (Second.iblk0 m c t) (Second.iblk1 m c t) (Second.iblk2 m c t) (Second.iblk3 m c t) (Second.iblk4 m c t) b n).trans ?_
    have ht := Second.lt16 t
    unfold Later.gated
    congr 1
    · apply Fin.ext; blk_simp [index5]
    · apply Fin.ext; blk_simp [index5]; simp; omega
  · blk_simp [Pipeline.Window.cell_apply]
    omega

end Cert.Sixth

end
-- ==== Proof.LaterRef.lean ====
/-
  The references of the later calls: each is the array handed to it with one sixth of its columns replaced.
-/
module

public import proofs.«01_k».proof.Proof.Gen.Reference1Ideal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import proofs.«01_k».proof.Proof.Later

@[expose] public section

set_option maxRecDepth 16384

noncomputable section

namespace Cert.LaterRef

open Idealize.ShloMosaic

open Reference1Ideal in
/-- The reference of the second call. -/
theorem second (m : (ℓ : Loc nD τ sig) → Buf (Elt Ideal) ℓ) (c : Dev nD) : Value.res_out0 (F := Ideal) m c
    = Later.placed 1 (m (c.tc.loc main_arg0)) (m (c.tc.loc main_arg1)) (m (c.tc.loc main_arg2)) (m (c.tc.loc main_arg3)) (m (c.tc.loc main_arg4))
        (m (c.tc.loc main_arg5)) :=
  Later.update_sixth 1 (by decide) _ _ _ _ _ _ _ rfl rfl _

open Reference2Ideal in
/-- The reference of the third call. -/
theorem third (m : (ℓ : Loc nD τ sig) → Buf (Elt Ideal) ℓ) (c : Dev nD) : Value.res_out0 (F := Ideal) m c
    = Later.placed 2 (m (c.tc.loc main_arg0)) (m (c.tc.loc main_arg1)) (m (c.tc.loc main_arg2)) (m (c.tc.loc main_arg3)) (m (c.tc.loc main_arg4))
        (m (c.tc.loc main_arg5)) :=
  Later.update_sixth 2 (by decide) _ _ _ _ _ _ _ rfl rfl _

open Reference3Ideal in
/-- The reference of the fourth call. -/
theorem fourth (m : (ℓ : Loc nD τ sig) → Buf (Elt Ideal) ℓ) (c : Dev nD) : Value.res_out0 (F := Ideal) m c
    = Later.placed 3 (m (c.tc.loc main_arg0)) (m (c.tc.loc main_arg1)) (m (c.tc.loc main_arg2)) (m (c.tc.loc main_arg3)) (m (c.tc.loc main_arg4))
        (m (c.tc.loc main_arg5)) :=
  Later.update_sixth 3 (by decide) _ _ _ _ _ _ _ rfl rfl _

open Reference4Ideal in
/-- The reference of the fifth call. -/
theorem fifth (m : (ℓ : Loc nD τ sig) → Buf (Elt Ideal) ℓ) (c : Dev nD) : Value.res_out0 (F := Ideal) m c
    = Later.placed 4 (m (c.tc.loc main_arg0)) (m (c.tc.loc main_arg1)) (m (c.tc.loc main_arg2)) (m (c.tc.loc main_arg3)) (m (c.tc.loc main_arg4))
        (m (c.tc.loc main_arg5)) :=
  Later.update_sixth 4 (by decide) _ _ _ _ _ _ _ rfl rfl _

open Reference5Ideal in
/-- The reference of the sixth call. -/
theorem sixth (m : (ℓ : Loc nD τ sig) → Buf (Elt Ideal) ℓ) (c : Dev nD) : Value.res_out0 (F := Ideal) m c
    = Later.placed 5 (m (c.tc.loc main_arg0)) (m (c.tc.loc main_arg1)) (m (c.tc.loc main_arg2)) (m (c.tc.loc main_arg3)) (m (c.tc.loc main_arg4))
        (m (c.tc.loc main_arg5)) :=
  Later.update_sixth 5 (by decide) _ _ _ _ _ _ _ rfl rfl _

end Cert.LaterRef

end
-- ==== Proof.lean ====
module

public import proofs.«01_k».proof.Defs
public import proofs.«01_k».proof.Proof.Gen.Kernel0
public import proofs.«01_k».proof.Proof.Gen.Kernel0.Frame
public import proofs.«01_k».proof.Proof.Gen.Kernel0Ideal
public import proofs.«01_k».proof.Proof.Gen.Kernel0Ideal.Frame
public import proofs.«01_k».proof.Proof.Gen.Kernel0Ideal.Value
public import proofs.«01_k».proof.Proof.Gen.Reference0Ideal
public import proofs.«01_k».proof.Proof.Gen.Reference0Ideal.Run
public import proofs.«01_k».proof.Proof.Gen.On_columns0
public import proofs.«01_k».proof.Proof.Gen.Kernel1
public import proofs.«01_k».proof.Proof.Gen.Kernel1.Frame
public import proofs.«01_k».proof.Proof.Gen.Kernel1Ideal
public import proofs.«01_k».proof.Proof.Gen.Kernel1Ideal.Frame
public import proofs.«01_k».proof.Proof.Gen.Kernel1Ideal.Value
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference1Ideal
public import proofs.«01_k».proof.Proof.Gen.Reference1Ideal.Run
public import proofs.«01_k».proof.Proof.Gen.Reference2Ideal
public import proofs.«01_k».proof.Proof.Gen.Reference2Ideal.Run
public import proofs.«01_k».proof.Proof.Gen.Reference3Ideal
public import proofs.«01_k».proof.Proof.Gen.Reference3Ideal.Run
public import proofs.«01_k».proof.Proof.Gen.Reference4Ideal
public import proofs.«01_k».proof.Proof.Gen.Reference4Ideal.Run
public import proofs.«01_k».proof.Proof.Gen.Reference5Ideal
public import proofs.«01_k».proof.Proof.Gen.Reference5Ideal.Run
public import proofs.«01_k».proof.Proof.First
public import proofs.«01_k».proof.Proof.FirstRef
public import proofs.«01_k».proof.Proof.Second
public import proofs.«01_k».proof.Proof.Third
public import proofs.«01_k».proof.Proof.Fourth
public import proofs.«01_k».proof.Proof.Fifth
public import proofs.«01_k».proof.Proof.Sixth
public import proofs.«01_k».proof.Proof.LaterRef
public import Idealize.ShloMosaic.Lib.Claim
public import Idealize.ShloMosaic.Adequacy
public import Idealize.ShloMosaic.Init

@[expose] public section

noncomputable section

namespace Cert.Proof

open Idealize.ShloMosaic Idealize.SL.Sem

/-- The columns on which the first call is compared are the 4096 that it writes. -/
theorem columns0 (x : FVec Ideal On_columns0.S320x3072 .bf16) (v v' : IVec On_columns0.S24x2048x128 32) (k k' : IVec On_columns0.S24x128x128 32)
    (b : Fin 320) (n : Fin 24576) (h : On_columns0.fn (F := Ideal) x v v' k k' (ix2 b n) = 1#1) : n.val < 4096 := by
  pointwise [On_columns0.fn] at h
  have hn := n.isLt
  exact (WordCmp.cmpi_slt_ofNat_eq_one_iff (w := 32) (by omega) (by decide)).mp h

/-- The first call's ideal reading computes the reference's mathematics on the columns it writes. -/
theorem algebraic0 : Cert.algebraic_Kernel0Ideal_Reference0Ideal_on_columns0 := by
  intro m g m' g' _ hin
  refine ⟨fun c => (Cert.Kernel0Ideal.Gen.dats m 0 c).arrAt 5 Cert.Kernel0Ideal.cfg0.N, ?_, ?_⟩
  · run_from Cert.Kernel0Ideal.Value.run_blocks m g
    exact fun _ _ => trivial
  · run_from Cert.Reference0Ideal.Value.run m' g'
    intro i hi
    obtain ⟨b, n, rfl⟩ : ∃ (b : Fin 320) (n : Fin 24576), i = ix2 b n := ⟨i 0, i 1, eq_ix2 i⟩
    have hn := columns0 _ _ _ _ _ b n hi
    obtain ⟨h0, h1, h2, h3, h4⟩ := hin c
    refine (FirstRef.res_apply m' c b n hn).trans ?_
    rw [First.final m c, h0, h1, h2, h3, h4]
    have e : (⟨n.val, hn⟩ : Fin 4096) = ⟨n.val % 4096, Nat.mod_lt _ (by decide)⟩ := Fin.ext (Nat.mod_eq_of_lt hn).symm
    rw [e]
    exact (if_pos hn).symm

/-- The reference of the first call ends with its arguments unchanged and no counter raised. -/
theorem frame0 : Cert.quiescent_Reference0Ideal := by
  intro m ρ _
  run_from Cert.Reference0Ideal.Value.run m ρ
  · simp
  · exact sem_eq_zero_of_no_sems (by decide) _

/-- The reference of the second call ends with its arguments unchanged and no counter raised. -/
theorem frame1 : Cert.quiescent_Reference1Ideal := by
  intro m ρ _
  run_from Cert.Reference1Ideal.Value.run m ρ
  · simp
  · exact sem_eq_zero_of_no_sems (by decide) _

/-- The second call's ideal reading computes the reference's mathematics. -/
theorem algebraic1 : Cert.algebraic_Kernel1Ideal_Reference1Ideal := by
  intro m g m' g' _ hin
  refine ⟨fun c => (Cert.Kernel1Ideal.Gen.dats m 0 c).arrAt 5 Cert.Kernel1Ideal.cfg0.N, ?_, ?_⟩
  · run_from Cert.Kernel1Ideal.Value.run_blocks m g
  · run_from Cert.Reference1Ideal.Value.run m' g'
    obtain ⟨h0, h1, h2, h3, h4, h5⟩ := hin c
    refine (LaterRef.second m' c).trans ?_
    rw [Second.final m c, h0, h1, h2, h3, h4, h5]

/-- The reference of the third call ends with its arguments unchanged and no counter raised. -/
theorem frame2 : Cert.quiescent_Reference2Ideal := by
  intro m ρ _
  run_from Cert.Reference2Ideal.Value.run m ρ
  · simp
  · exact sem_eq_zero_of_no_sems (by decide) _

/-- The third call's ideal reading computes the reference's mathematics. -/
theorem algebraic2 : Cert.algebraic_Kernel2Ideal_Reference2Ideal := by
  intro m g m' g' _ hin
  refine ⟨fun c => (Cert.Kernel2Ideal.Gen.dats m 0 c).arrAt 5 Cert.Kernel2Ideal.cfg0.N, ?_, ?_⟩
  · run_from Cert.Kernel2Ideal.Value.run_blocks m g
  · run_from Cert.Reference2Ideal.Value.run m' g'
    obtain ⟨h0, h1, h2, h3, h4, h5⟩ := hin c
    refine (LaterRef.third m' c).trans ?_
    rw [Third.final m c, h0, h1, h2, h3, h4, h5]

/-- The reference of the fourth call ends with its arguments unchanged and no counter raised. -/
theorem frame3 : Cert.quiescent_Reference3Ideal := by
  intro m ρ _
  run_from Cert.Reference3Ideal.Value.run m ρ
  · simp
  · exact sem_eq_zero_of_no_sems (by decide) _

/-- The fourth call's ideal reading computes the reference's mathematics. -/
theorem algebraic3 : Cert.algebraic_Kernel3Ideal_Reference3Ideal := by
  intro m g m' g' _ hin
  refine ⟨fun c => (Cert.Kernel3Ideal.Gen.dats m 0 c).arrAt 5 Cert.Kernel3Ideal.cfg0.N, ?_, ?_⟩
  · run_from Cert.Kernel3Ideal.Value.run_blocks m g
  · run_from Cert.Reference3Ideal.Value.run m' g'
    obtain ⟨h0, h1, h2, h3, h4, h5⟩ := hin c
    refine (LaterRef.fourth m' c).trans ?_
    rw [Fourth.final m c, h0, h1, h2, h3, h4, h5]

/-- The reference of the fifth call ends with its arguments unchanged and no counter raised. -/
theorem frame4 : Cert.quiescent_Reference4Ideal := by
  intro m ρ _
  run_from Cert.Reference4Ideal.Value.run m ρ
  · simp
  · exact sem_eq_zero_of_no_sems (by decide) _

/-- The fifth call's ideal reading computes the reference's mathematics. -/
theorem algebraic4 : Cert.algebraic_Kernel4Ideal_Reference4Ideal := by
  intro m g m' g' _ hin
  refine ⟨fun c => (Cert.Kernel4Ideal.Gen.dats m 0 c).arrAt 5 Cert.Kernel4Ideal.cfg0.N, ?_, ?_⟩
  · run_from Cert.Kernel4Ideal.Value.run_blocks m g
  · run_from Cert.Reference4Ideal.Value.run m' g'
    obtain ⟨h0, h1, h2, h3, h4, h5⟩ := hin c
    refine (LaterRef.fifth m' c).trans ?_
    rw [Fifth.final m c, h0, h1, h2, h3, h4, h5]

/-- The reference of the sixth call ends with its arguments unchanged and no counter raised. -/
theorem frame5 : Cert.quiescent_Reference5Ideal := by
  intro m ρ _
  run_from Cert.Reference5Ideal.Value.run m ρ
  · simp
  · exact sem_eq_zero_of_no_sems (by decide) _

/-- The sixth call's ideal reading computes the reference's mathematics. -/
theorem algebraic5 : Cert.algebraic_Kernel5Ideal_Reference5Ideal := by
  intro m g m' g' _ hin
  refine ⟨fun c => (Cert.Kernel5Ideal.Gen.dats m 0 c).arrAt 5 Cert.Kernel5Ideal.cfg0.N, ?_, ?_⟩
  · run_from Cert.Kernel5Ideal.Value.run_blocks m g
  · run_from Cert.Reference5Ideal.Value.run m' g'
    obtain ⟨h0, h1, h2, h3, h4, h5⟩ := hin c
    refine (LaterRef.sixth m' c).trans ?_
    rw [Sixth.final m c, h0, h1, h2, h3, h4, h5]

/-- Everything claimed: frames, ideal readings, and the value of the six calls. -/
theorem claim : Cert.Claim :=
  ⟨Cert.Kernel0.Gen.facts, Cert.Kernel0Ideal.Gen.facts, Cert.Reference0Ideal.Gen.facts,
    Cert.Kernel1.Gen.facts, Cert.Kernel1Ideal.Gen.facts, Cert.Reference1Ideal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.On_columns0.Gen.facts,
    fun m ρ _ => Cert.Kernel0.Gen.frame m ρ, fun m ρ _ => Cert.Kernel0Ideal.Gen.frame m ρ, frame0,
    fun m ρ _ => Cert.Kernel1.Gen.frame m ρ, fun m ρ _ => Cert.Kernel1Ideal.Gen.frame m ρ, frame1,
    fun m ρ _ => Cert.Kernel2.Gen.frame m ρ, fun m ρ _ => Cert.Kernel2Ideal.Gen.frame m ρ, frame2,
    fun m ρ _ => Cert.Kernel3.Gen.frame m ρ, fun m ρ _ => Cert.Kernel3Ideal.Gen.frame m ρ, frame3,
    fun m ρ _ => Cert.Kernel4.Gen.frame m ρ, fun m ρ _ => Cert.Kernel4Ideal.Gen.frame m ρ, frame4,
    fun m ρ _ => Cert.Kernel5.Gen.frame m ρ, fun m ρ _ => Cert.Kernel5Ideal.Gen.frame m ρ, frame5,
    trivial, algebraic0, trivial, algebraic1, trivial, algebraic2, trivial, algebraic3, trivial, algebraic4, trivial, algebraic5⟩

end Cert.Proof

end
